-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S3x1024x4096 : Shape := ⟨3, ![3, 1024, 4096]⟩
abbrev S3 : Shape := ⟨1, ![3]⟩
abbrev S_ : Shape := ⟨0, ![]⟩
abbrev S1x1024x4096 : Shape := ⟨3, ![1, 1024, 4096]⟩
abbrev S1024x2048 : Shape := ⟨2, ![1024, 2048]⟩

abbrev nBuf : Space → Nat
  | .hbm => 5
  | .vmem => 4
  | .smem => 2
  | _ => 0

abbrev bufTy : (tb : Table) → Fin (tcTables nBuf tb) → BufTy
  | .hbm, ⟨0, _⟩ => ⟨S1024x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .fp8e4m3⟩
  | .local _ .vmem, ⟨1, _⟩ => ⟨S4096x2048, .fp8e5m2⟩
  | .local _ .vmem, ⟨2, _⟩ => ⟨S4096x2048, .f32⟩
  | .local _ .vmem, ⟨3, _⟩ => ⟨S3x1024x4096, .fp8e4m3⟩
  | .local _ .smem, ⟨0, _⟩ => ⟨S1, .f32⟩
  | .local _ .smem, ⟨1, _⟩ => ⟨S1, .f32⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_12 : BitVec 32 := 1#32
  let v15 : BitVec 32 := Scalar.muli v6 c1_i32_12
  let v16 : BitVec 32 := Scalar.addi c0_i32_13 v15
  v16.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v32 : BitVec 32 := Scalar.muli v2 c1024_i32
  let v33 : Index := Scalar.indexCast v32
  let c0_20 : Index := 0#32
  ![v33.toNat, 0]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_32 : BitVec 32 := 1#32
  let v41 : BitVec 32 := Scalar.muli v6 c1_i32_32
  let v42 : BitVec 32 := Scalar.addi c0_i32_33 v41
  v42.toNat
def k0_off2 (d0 : Dev nD) (c3_i32_41 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v53 : BitVec 32 := Scalar.addi v2 c3_i32_41
  let c4_i32_42 : BitVec 32 := 4#32
  let v54 : BitVec 32 := Scalar.remsi v53 c4_i32_42
  let c1024_i32_46 : BitVec 32 := 1024#32
  let v62 : BitVec 32 := Scalar.muli v54 c1024_i32_46
  let v63 : Index := Scalar.indexCast v62
  let c0_47 : Index := 0#32
  ![v63.toNat, 0]
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_62 : BitVec 32 := 1#32
  let v73 : BitVec 32 := Scalar.muli v6 c1_i32_62
  let v74 : BitVec 32 := Scalar.addi c0_i32_63 v73
  v74.toNat
abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Common.lean ====
/-
# The ring all-gather: cells, contents and schedule

Four devices on a ring. Device `c` starts with its own row block of `x` in a staging buffer; three copies per device, each to
the NEXT device, fill the next device's scratch slots 0, 1, 2 with the blocks of the devices one, two and three places behind.

Per device seven semaphores, each used for one round:
* the barrier cell (0) waits for two units: the previous device pays the duty `false` and hands over nothing; the next device
  pays the duty `true` and hands over its whole scratch buffer, which is where the copies will land;
* the send cell of copy `h` (1 + h) waits for the copy's bytes and gives back the half of the source that the copy held;
* the receive cell of copy `h` (4 + h) waits for the same bytes, paid by the previous device's copy, and hands over slot `h`
  holding the block of the device `h + 1` places behind.
The levels that make every wait safe: barrier 1, receive cells 2, 3, 4, everything else 0.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Ring
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state of the seven cells: rounds with duties named by a truth value. -/
abbrev UB : Type := URounds (GSem nD τ sig) Bool
/-- The pipeline's ghost state and the ring's. -/
abbrev UU : Type := UR sig nD τ × UB

local notation "𝕄" => MT nD τ sig Unit (Elt F) ℕ UU ℕ

/-- The pipeline's ghost state within the whole. -/
abbrev EP : Emb (UR sig nD τ) (MT nD τ sig Unit (Elt F) ℕ UU ℕ) := embL
/-- The ring's ghost state within the whole. -/
abbrev ER : Emb UB (MT nD τ sig Unit (Elt F) ℕ UU ℕ) := embR

variable (m : (ℓ : Loc nD τ sig) → Buf (Elt F) ℓ) (ρ : Dev nD → PrngReg)

/-- The state at launch: arbitrary memory and generator registers, every semaphore counter at zero. -/
def s₀ : MemSt nD τ sig (Elt F) := ⟨m, fun _ => 0, ρ⟩

/-! ## The ring of devices -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

/-- The device before the next one is the device itself. -/
theorem prv_nxt (c : Dev nD) : prv (nxt c) = c := by revert c; decide
/-- The device after the previous one is the device itself. -/
theorem nxt_prv (c : Dev nD) : nxt (prv c) = c := by revert c; decide

/-- The ring step as a permutation of the devices. -/
def ring : Dev nD ≃ Dev nD := ⟨nxt, prv, prv_nxt, nxt_prv⟩

/-- The first barrier signal goes to the previous device, -/
theorem dev1_eq (c : Dev nD) : (⟨k0_dev1 c, k0_dev1_lt c⟩ : Dev nD) = prv c := Fin.ext (k0_dev1_eq c)
/-- the second to the next; -/
theorem dev2_eq (c : Dev nD) : (⟨k0_dev2 c, k0_dev2_lt c⟩ : Dev nD) = nxt c := Fin.ext (k0_dev2_eq c)
/-- the first copy goes to the next device, -/
theorem dev3_eq (c : Dev nD) : (⟨k0_dev3 c, k0_dev3_lt c⟩ : Dev nD) = nxt c := Fin.ext (k0_dev3_eq c)
/-- so does the second, -/
theorem dev4_eq (c : Dev nD) : (⟨k0_dev4 c, k0_dev4_lt c⟩ : Dev nD) = nxt c := Fin.ext (k0_dev4_eq c)
/-- and the third. -/
theorem dev5_eq (c : Dev nD) : (⟨k0_dev5 c, k0_dev5_lt c⟩ : Dev nD) = nxt c := Fin.ext (k0_dev5_eq c)

/-! ## Buffers, slots and semaphores -/

/-- The staging buffer of the block of `x`. -/
abbrev xM : Memref sig .tc .vmem S1024x4096 .fp8e4m3 := Memref.whole cc0_stg0_0
/-- The staging buffer of the block of `w`. -/
abbrev wM : Memref sig .tc .vmem S4096x2048 .fp8e5m2 := Memref.whole cc0_stg1_0
/-- The staging buffer of the first scale. -/
abbrev aM : Memref sig .tc .smem S1 .f32 := Memref.whole cc0_stg2_0
/-- The staging buffer of the second scale. -/
abbrev bM : Memref sig .tc .smem S1 .f32 := Memref.whole cc0_stg3_0
/-- The result's staging buffer. -/
abbrev oM : Memref sig .tc .vmem S4096x2048 .f32 := Memref.whole cc0_stg4_0
/-- The scratch buffer that the copies fill. -/
abbrev rM : Memref sig .tc .vmem S3x1024x4096 .fp8e4m3 := Memref.whole cc0_scratch0

/-- The rectangle of the scratch buffer that slot `h` is. -/
abbrev slotRect (h : ℕ) (hb : ∀ a, (![h, 0, 0] : Fin 3 → ℕ) a + S1x1024x4096.size a ≤ S3x1024x4096.size a) : Rect S3x1024x4096 :=
  Rect.unit (s := S3x1024x4096) ![h, 0, 0] S1x1024x4096.size hb
/-- Slot `h` of the scratch buffer, as a matrix. -/
abbrev slot (h : ℕ) (hb : ∀ a, (![h, 0, 0] : Fin 3 → ℕ) a + S1x1024x4096.size a ≤ S3x1024x4096.size a) :
    Memref sig .tc .vmem S1024x4096 .fp8e4m3 :=
  (rM.slice (slotRect h hb) (fun _ => rfl)).squeeze S1024x4096 squeezes_S1x1024x4096_S1024x4096
/-- Where the first copy lands. -/
abbrev slot0 : Memref sig .tc .vmem S1024x4096 .fp8e4m3 := slot 0 inb_S3x1024x4096_S1x1024x4096_0_0_0
/-- Where the second copy lands. -/
abbrev slot1 : Memref sig .tc .vmem S1024x4096 .fp8e4m3 := slot 1 inb_S3x1024x4096_S1x1024x4096_1_0_0
/-- Where the third copy lands. -/
abbrev slot2 : Memref sig .tc .vmem S1024x4096 .fp8e4m3 := slot 2 inb_S3x1024x4096_S1x1024x4096_2_0_0

/-- The barrier semaphore, the same for every launch with this collective id. -/
abbrev barS : Sem sig := (SemArray.scalar (sig.barrier 0 rfl) : Sems sig S_).sem
/-- One semaphore of an array of three. -/
abbrev semAt (a : DmaSems sig S3) (h : ℕ) (hb : ∀ i, (![h] : Fin 1 → ℕ) i + S1.size i ≤ S3.size i) : DmaSem sig :=
  ((a.slice (Rect.unit (s := S3) ![h] S1.size hb)).squeeze S_ squeezes_S1_S_).sem

/-- The seven semaphores of a device: barrier, three send, three receive. -/
abbrev csem : Fin 7 → SemLoc sig := fun
  | 0 => .reg barS
  | 1 => .dma (semAt cc0_scratch1 0 inb_S3_S1_0) | 2 => .dma (semAt cc0_scratch1 1 inb_S3_S1_1) | 3 => .dma (semAt cc0_scratch1 2 inb_S3_S1_2)
  | 4 => .dma (semAt cc0_scratch2 0 inb_S3_S1_0) | 5 => .dma (semAt cc0_scratch2 1 inb_S3_S1_1) | 6 => .dma (semAt cc0_scratch2 2 inb_S3_S1_2)
/-- The six that belong to the launch. -/
abbrev osem : Fin 6 → SemLoc sig := fun k => csem k.succ

/-- Device `c`'s cell number `k`. -/
abbrev cell (c : Dev nD) (k : Fin 7) : GSem nD τ sig := ((c : Thread nD τ), csem k)

/-- Which of the seven a semaphore is, if any. -/
def kind (s : SemLoc sig) : Option (Fin 7) := (List.finRange 7).find? fun k => csem k = s

/-- Each of the seven semaphores is found under its own number. -/
theorem kind_csem : ∀ k, kind (csem k) = some k := by decide

/-- The seven semaphores differ. -/
theorem csem_inj {k k' : Fin 7} (h : csem k = csem k') : k = k' :=
  Option.some.inj ((kind_csem k).symm.trans ((congrArg kind h).trans (kind_csem k')))

/-- The bytes one copy credits to a semaphore. -/
abbrev N : ℕ := xM.view.dmaCredit
/-- A copy moves at least one byte. -/
theorem N_pos : 0 < N := View.dmaCredit_pos _ (by decide)

/-! ## Contents -/

/-- Device `c`'s staged operands: its row block of `x`, its column block of `w`, and the two scales. -/
def xstg (c : Dev nD) : S1024x4096.Idx → Elt F .fp8e4m3 :=
  (win0_0.blk (0 : Fin 1)).view.read (Elt F) ((s₀ m ρ).mem ((c : Thread nD τ).loc main_arg0))
/-- Its column block of `w`. -/
def wstg (c : Dev nD) : S4096x2048.Idx → Elt F .fp8e5m2 :=
  (win0_1.blk (0 : Fin 1)).view.read (Elt F) ((s₀ m ρ).mem ((c : Thread nD τ).loc main_arg1))
/-- Its copy of the first scale. -/
def astg (c : Dev nD) : S1.Idx → Elt F .f32 :=
  (win0_2.blk (0 : Fin 1)).view.read (Elt F) ((s₀ m ρ).mem ((c : Thread nD τ).loc main_arg2))
/-- Its copy of the second scale. -/
def bstg (c : Dev nD) : S1.Idx → Elt F .f32 :=
  (win0_3.blk (0 : Fin 1)).view.read (Elt F) ((s₀ m ρ).mem ((c : Thread nD τ).loc main_arg3))

/-- The one index of a one-element vector. -/
def i₀ : S1.Idx := fun _ => ⟨0, by decide +revert⟩

/-- The product of the two scales on device `c`. -/
def scale (c : Dev nD) : F .f32 := k0_pay1 (astg m ρ c i₀) (bstg m ρ c i₀)

/-- One row block of the result: `y · sigmoid y` for `y` the scaled product of a row block of `x` with the columns. -/
def tile (s : F .f32) (x : S1024x4096.Idx → Elt F .fp8e4m3) (w : S4096x2048.Idx → Elt F .fp8e5m2) : S1024x2048.Idx → Elt F .f32 :=
  k0_pay4 s x w (constant S1024x2048 .f32 0x00000000#32)

set_option backward.proofsInPublic true in
/-- The device whose row block holds row `i`. -/
def rowDev (i : S4096x2048.Idx) : Dev nD := ⟨(i 0).val / 1024, by
  have h : (i 0).val < 4096 := (i 0).isLt
  show _ < 4; omega⟩
set_option backward.proofsInPublic true in
/-- Row `i` within that block. -/
def rowIn (i : S4096x2048.Idx) : S1024x2048.Idx := fun
  | ⟨0, _⟩ => ⟨(i 0).val % 1024, Nat.mod_lt _ (by decide)⟩
  | ⟨1, _⟩ => ⟨(i 1).val, (i 1).isLt⟩

/-- The kernel's result on device `c`: row block by row block, each from the block of `x` that its rows belong to. -/
def outAt (c : Dev nD) : S4096x2048.Idx → Elt F .f32 := fun i => tile (scale m ρ c) (xstg m ρ (rowDev i)) (wstg m ρ c) (rowIn i)

/-- The whole scratch buffer of device `c` at some contents. -/
def scr (c : Dev nD) : sProp 𝕄 :=
  iprop(∃ f : Buf (Elt F) ((c : Thread nD τ).loc cc0_scratch0), ((c : Thread nD τ).loc cc0_scratch0) ↦{fullShare} f)

/-- Device `c` holds memref `v` at share `q`, reading `X` through it. -/
abbrev has {sp : Space} {s : Shape} {e : EltTy} (c : Dev nD) (v : Memref sig .tc sp s e) (q : PosShare TreeShare) (X : s.Idx → Elt F e) : sProp 𝕄 :=
  owns (Ix := Unit) (Name := ℕ) (U := UU) (Lvl := ℕ) (c : Thread nD τ) v q X

/-! ## The schedule -/

/-- What the duty `d` of device `c`'s cell `k` hands over when it is paid. -/
def pay (c : Dev nD) : Fin 7 → Bool → sProp 𝕄
  | 0, true => scr (nxt c)
  | 0, false => iprop(emp)
  | 1, _ => has c xM fullShare.left (xstg m ρ c)
  | 2, _ => has c slot0 fullShare.left (xstg m ρ (prv c))
  | 3, _ => has c slot1 fullShare.left (xstg m ρ (prv (prv c)))
  | 4, _ => has c slot0 fullShare (xstg m ρ (prv c))
  | 5, _ => has c slot1 fullShare (xstg m ρ (prv (prv c)))
  | 6, _ => has c slot2 fullShare (xstg m ρ (prv (prv (prv c))))

/-- Whatever a duty hands over may be kept in an invariant. -/
instance pay_storable (c : Dev nD) (k : Fin 7) (d : Bool) : BI.Storable (upEmb : UEmb _ 𝕄) (pay m ρ c k d) := by
  unfold pay scr has owns
  split <;> infer_instance

/-- The duties of a cell of the given kind. -/
def dutiesOf : Option (Fin 7) → Finset Bool
  | some k => if k = 0 then Finset.univ else {false}
  | none => ∅

/-- One round of duties: both names at a barrier cell, `false` alone at the others, and what each pays. -/
def ringRd : Rounds.Schedule (GSem nD τ sig) Bool 𝕄 where
  duties g r := if r = 0 ∧ g.1.2 = .tc then dutiesOf (kind g.2) else ∅
  unitless _ := False
  amount g _ _ := if kind g.2 = some 0 then 1 else N
  payload g _ d := match kind g.2 with
    | some k => pay m ρ g.1.1 k d
    | none => iprop(emp)
  amount_pos g _ _ _ := by
    split
    · exact Nat.one_pos
    · exact N_pos

/-- So may every payload of the schedule. -/
instance ringRd_payload_storable (g : GSem nD τ sig) (r : ℕ) (d : Bool) :
    BI.Storable (upEmb : UEmb _ 𝕄) ((ringRd (F := F) m ρ).payload g r d) := by
  show BI.Storable upEmb (match kind g.2 with | some k => pay m ρ g.1.1 k d | none => iprop(emp))
  split <;> infer_instance

section Sched
variable (c : Dev nD)

/-- The duties of a cell in its round, by its number. -/
theorem duties_at (k : Fin 7) : (ringRd (F := F) m ρ).duties (cell c k) 0 = dutiesOf (some k) := by
  dsimp only [ringRd]; rw [if_pos ⟨rfl, rfl⟩, kind_csem]
/-- A barrier cell has both duties. -/
theorem duties_bar : (ringRd (F := F) m ρ).duties (cell c 0) 0 = Finset.univ := duties_at m ρ c 0
/-- Any other cell has the duty `false` alone. -/
theorem duties_dma (k : Fin 7) (hk : k ≠ 0) : (ringRd (F := F) m ρ).duties (cell c k) 0 = {false} := (duties_at m ρ c k).trans (if_neg hk)

/-- No cell has duties after its first round. -/
theorem duties_later (g : GSem nD τ sig) : ∀ r, 1 ≤ r → (ringRd (F := F) m ρ).duties g r = ∅ :=
  fun r hr => if_neg fun h => by omega

/-- Each duty of a barrier cell is one unit. -/
theorem amount_bar (d : Bool) : (ringRd (F := F) m ρ).amount (cell c 0) 0 d = 1 := by
  dsimp only [ringRd]; exact if_pos (kind_csem 0)
/-- The duty of any other cell is one copy's bytes. -/
theorem amount_dma (k : Fin 7) (hk : k ≠ 0) (d : Bool) : (ringRd (F := F) m ρ).amount (cell c k) 0 d = N := by
  dsimp only [ringRd]; exact if_neg fun h => hk (Option.some.inj ((kind_csem k).symm.trans h))

/-- A cell pays out what `pay` says. -/
theorem payload_eq (k : Fin 7) (d : Bool) : (ringRd (F := F) m ρ).payload (cell c k) 0 d = pay m ρ c k d := by
  show (match kind (csem k) with | some k => pay m ρ c k d | none => iprop(emp)) = _
  rw [kind_csem]

/-- A barrier cell waits for two units. -/
theorem expect_bar : (ringRd (F := F) m ρ).expect (cell c 0) 0 = 2 := by
  unfold Schedule.expect Schedule.amountOf
  rw [duties_bar, Finset.sum_congr rfl fun d _ => amount_bar m ρ c d, Finset.sum_const, Finset.card_univ, Fintype.card_bool, smul_eq_mul]
/-- Any other cell waits for one copy's bytes. -/
theorem expect_dma (k : Fin 7) (hk : k ≠ 0) : (ringRd (F := F) m ρ).expect (cell c k) 0 = N := by
  unfold Schedule.expect Schedule.amountOf; rw [duties_dma m ρ c k hk, Finset.sum_singleton, amount_dma m ρ c k hk]

/-- A whole round of a barrier cell hands over the next device's scratch buffer. -/
theorem rest_bar : bigSep ((ringRd (F := F) m ρ).duties (cell c 0) 0 \ ∅) (fun d => (ringRd (F := F) m ρ).payload (cell c 0) 0 d)
    = iprop(emp ∗ scr (nxt c)) := by
  rw [Finset.sdiff_empty, duties_bar, bigSep_univ_eq_bigSepL [false, true] (by decide) (by decide), bigSepL_cons_cons, bigSepL_singleton,
    payload_eq, payload_eq]
  rfl
/-- A whole round of any other cell hands over its one payload. -/
theorem rest_dma (k : Fin 7) (hk : k ≠ 0) :
    bigSep ((ringRd (F := F) m ρ).duties (cell c k) 0 \ ∅) (fun d => (ringRd (F := F) m ρ).payload (cell c k) 0 d) = pay m ρ c k false := by
  rw [Finset.sdiff_empty, duties_dma m ρ c k hk, bigSep_singleton, payload_eq]

end Sched

/-! ## Debts and levels -/

/-- Device `c` owes the next device's receive cell of copy `h` one copy's bytes. -/
abbrev debt (c : Dev nD) (k : Fin 7) : CellTallies nD τ sig Unit := tallyAt (cell (nxt c) k) () N
/-- What is still owed after the barrier signals. -/
abbrev O₃ (c : Dev nD) : CellTallies nD τ sig Unit := debt c 6 + debt c 5 + debt c 4
/-- What is still owed after the first signal: the copies, and one unit to the next device's barrier. -/
abbrev O₂ (c : Dev nD) : CellTallies nD τ sig Unit := O₃ c + tallyAt (cell (nxt c) 0) () 1
/-- What device `c` owes at launch: its three copies and one unit to each neighbour's barrier. -/
def O₀ (c : Dev nD) : CellTallies nD τ sig Unit := O₂ c + tallyAt (cell (prv c) 0) () 1

/-- The levels in use: one for every semaphore of a TensorCore. -/
def L (g : GSem nD τ sig) : Finset Unit := if g.1.2 = .tc then {()} else ∅
/-- A semaphore's level: the barrier 1, the receive cells 2, 3, 4, the rest 0. -/
def lvS (s : SemLoc sig) : ℕ := match kind s with
  | some 0 => 1 | some 4 => 2 | some 5 => 3 | some 6 => 4 | _ => 0
/-- The level of a cell is that of its semaphore. -/
def lv (g : GSem nD τ sig) (_ : Unit) : ℕ := lvS g.2

/-- The levels of the seven semaphores. -/
theorem lvS_csem (k : Fin 7) : lvS (csem k) = (match k with | 0 => 1 | 4 => 2 | 5 => 3 | 6 => 4 | _ => 0) := by
  unfold lvS; rw [kind_csem]; revert k; decide

/-- No other core has levels. -/
theorem L_of_ne (g : GSem nD τ sig) (h : g.1.2 ≠ .tc) : L g = ∅ := if_neg h

/-- Every debt is to a cell above level `k`. -/
def Above (k : ℕ) (O : CellTallies nD τ sig Unit) : Prop := ∀ g u, 0 < O g u → g.1.2 = .tc ∧ k < lv g u

/-- A device that owes nothing owes only above level `k`. -/
theorem Above.zero (k : ℕ) : Above k 0 := fun g u h => absurd h (Nat.lt_irrefl 0)
/-- A single debt is above level `k` if its cell is. -/
theorem Above.tally (k : ℕ) (d : Dev nD) (j : Fin 7) (n : ℕ) (h : k < lvS (csem j)) : Above k (tallyAt (cell d j) () n) := fun g u hg => by
  rw [tallyAt_apply] at hg
  by_cases hc : g = cell d j ∧ u = ()
  · rw [hc.1]; exact ⟨rfl, h⟩
  · rw [if_neg hc] at hg; exact absurd hg (Nat.lt_irrefl 0)
/-- Debts above a level add up to debts above it. -/
theorem Above.add {k : ℕ} {O O' : CellTallies nD τ sig Unit} (h : Above k O) (h' : Above k O') : Above k (O + O') := fun g u hg => by
  rw [Pi.add_apply, Finsupp.add_apply] at hg
  rcases Nat.eq_zero_or_pos (O g u) with h0 | h0
  · exact h' g u (by omega)
  · exact h g u h0

/-- All that is owed at launch is above level 0. -/
theorem above_O₀ (c : Dev nD) : Above 0 (O₀ c) := by
  refine ((((Above.tally 0 _ _ _ ?_).add (Above.tally 0 _ _ _ ?_)).add (Above.tally 0 _ _ _ ?_)).add (Above.tally 0 _ _ _ ?_)).add (Above.tally 0 _ _ _ ?_) <;>
    (rw [lvS_csem]; decide)
/-- What is owed after the signals is above the barrier. -/
theorem above_O₃ (c : Dev nD) : Above 1 (O₃ c) := by
  refine ((Above.tally 1 _ _ _ ?_).add (Above.tally 1 _ _ _ ?_)).add (Above.tally 1 _ _ _ ?_) <;> (rw [lvS_csem]; decide)
/-- What is owed after the first copy is above the first receive cell. -/
theorem above_recv0 (c : Dev nD) : Above 2 (debt c 6 + debt c 5) := by
  refine (Above.tally 2 _ _ _ ?_).add (Above.tally 2 _ _ _ ?_) <;> (rw [lvS_csem]; decide)
/-- What is owed after the second copy is above the second receive cell. -/
theorem above_recv1 (c : Dev nD) : Above 3 (debt c 6) := Above.tally 3 _ _ _ (by rw [lvS_csem]; decide)

/-- A device may wait on a semaphore whose level is below every cell it owes. -/
theorem mayWait_of (c : Dev nD) (s : SemLoc sig) (k : ℕ) (hs : lvS s = k) (O : CellTallies nD τ sig Unit) (hO : Above k O) :
    (levAts L lv : sProp 𝕄) ⊢ MayWait (c : Thread nD τ) s () O :=
  MayOwe.of_cut (L := L) (lev := lv) k
    (fun p hp => by rw [Finset.mem_singleton.mp hp]; unfold L; rw [if_pos rfl]; exact Finset.mem_singleton_self _)
    (fun g u hg => by unfold L; rw [if_pos (hO g u hg).1]; exact Finset.mem_singleton_self _)
    (fun p hp => by rw [Finset.mem_singleton.mp hp]; exact hs.le)
    (fun g u hg => (hO g u hg).2)

/-! ## The pipeline's proof data -/

/-- The one grid point. -/
def t₀ : Fin cfg0.N := t0_0
/-- There is no other grid point. -/
theorem fin_N (t : Fin cfg0.N) : t = t₀ := fin_N0 t

/-- What every device knows: all cells' invariants, under the names `K`, and that all cells have reached round 0. -/
def records (K : Dev nD × Fin 7 → ℕ) : sProp 𝕄 :=
  iprop((bigSep Finset.univ fun ck : Dev nD × Fin 7 => cellInv ER (ringRd m ρ) (K ck) (cell ck.1 ck.2))
    ∗ bigSep Finset.univ fun ck : Dev nD × Fin 7 => reached ER (cell ck.1 ck.2) 0)

/-- These facts may be used any number of times. -/
instance records_persistent (K : Dev nD × Fin 7 → ℕ) : BI.Persistent (records m ρ K) := by unfold records; infer_instance

/-- The invariant of one cell, out of all. -/
theorem inv_at (K : Dev nD × Fin 7 → ℕ) (c : Dev nD) (k : Fin 7) :
    records m ρ K ⊢ (cellInv ER (ringRd m ρ) (K (c, k)) (cell c k) : sProp 𝕄) := by
  unfold records
  exact sep_elim_left.trans (bigSep_elim (Φ := fun ck : Dev nD × Fin 7 => (cellInv ER (ringRd m ρ) (K ck) (cell ck.1 ck.2) : sProp 𝕄)) (Finset.mem_univ (c, k)))
/-- One cell has reached round 0, out of all. -/
theorem reached_at (K : Dev nD × Fin 7 → ℕ) (c : Dev nD) (k : Fin 7) :
    records m ρ K ⊢ (reached ER (cell c k) 0 : sProp 𝕄) := by
  unfold records
  exact sep_elim_right.trans (bigSep_elim (Φ := fun ck : Dev nD × Fin 7 => (reached ER (cell ck.1 ck.2) 0 : sProp 𝕄)) (Finset.mem_univ (c, k)))

/-- The token of the duty `d` of cell `k` of device `c`. -/
abbrev tok (c : Dev nD) (k : Fin 7) (d : Bool) : sProp 𝕄 := dutyTok ER (cell c k) 0 d
/-- Device `c` at the start of its cell `k`. -/
abbrev pos (c : Dev nD) (k : Fin 7) : sProp 𝕄 := atPos ER (cell c k) 0 ∅ 0

/-- The tokens of the duties that device `c` pays: both neighbours' barriers, the next device's receive cells, its own send cells. -/
def payToks (c : Dev nD) : sProp 𝕄 :=
  iprop(tok (nxt c) 0 false ∗ tok (prv c) 0 true ∗ tok c 1 false ∗ tok c 2 false ∗ tok c 3 false
    ∗ tok (nxt c) 4 false ∗ tok (nxt c) 5 false ∗ tok (nxt c) 6 false)
/-- Device `c`'s positions at its seven cells. -/
def poss (c : Dev nD) : sProp 𝕄 :=
  iprop(pos c 0 ∗ pos c 1 ∗ pos c 2 ∗ pos c 3 ∗ pos c 4 ∗ pos c 5 ∗ pos c 6)
/-- The ring's ghost state that device `c` starts from. -/
def ghost (K : Dev nD × Fin 7 → ℕ) (c : Dev nD) : sProp 𝕄 := iprop(records m ρ K ∗ poss c ∗ payToks c)

/-- The credits device `c` waits for: two barrier units and three copies. -/
def creds (c : Dev nD) : sProp 𝕄 :=
  iprop(cred (tallyAt (cell c 0) () 2) ∗ cred (tallyAt (cell c 4) () N) ∗ cred (tallyAt (cell c 5) () N) ∗ cred (tallyAt (cell c 6) () N))

/-- What a device has when it enters the launch: its ghost state, its credits and the levels. -/
def start (c : Dev nD) : sProp 𝕄 := iprop((∃ K, ghost m ρ K c) ∗ creds c ∗ levAts L lv)

/-- The seven cells closed, their counters at zero. -/
def zeros (c : Dev nD) : sProp 𝕄 :=
  iprop(semVal (cell c 0) 0 ∗ semVal (cell c 1) 0 ∗ semVal (cell c 2) 0 ∗ semVal (cell c 3) 0 ∗ semVal (cell c 4) 0 ∗ semVal (cell c 5) 0 ∗ semVal (cell c 6) 0)

/-- Before the body: the ghost state and the scratch buffer; after it: the scratch buffer and the cells at zero. -/
def Φ₀ (c : Dev nD) : sProp 𝕄 := iprop(start m ρ c ∗ scr c)
/-- After the body: the scratch buffer and the cells at zero. -/
def Φ₁ (c : Dev nD) : sProp 𝕄 := iprop(scr c ∗ zeros c)

/-- The pipeline's proof data: the arrays at launch, what every staging buffer holds after the body, what the body keeps and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => astg m ρ c
    | ⟨3, _⟩ => bstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- No loop of the body needs a variant. -/
abbrev 𝒱₀ : Variants := Variants.none

end Cert.Gather

end
-- ==== Proof.Rules.lean ====
/-
# One rule per step of the ring, and the scratch buffer cut into its slots

Each rule states one effect of the body at a cell of the ring: the two signals, the barrier wait, a copy, the wait on a copy's
cell. They are the library's rules with this schedule's duties, amounts and payloads filled in.
-/
module

public import proofs.«01_k».proof.Proof.Common

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffer and its slots -/

/-- Device `c` holds memref `v` whole at some contents. -/
abbrev some_ {sp : Space} {s : Shape} {e : EltTy} (c : Dev nD) (v : Memref sig .tc sp s e) : sProp 𝕄 :=
  iprop(∃ f : Buf (Elt F) (v.view.loc (c : Thread nD τ)), v.view.loc (c : Thread nD τ) ↦[v.view.set]{fullShare} f)

/-- Slot `h` covers the elements of its rectangle. -/
theorem slot_set (h : ℕ) (hb) : (slot h hb).view.set = (slotRect h hb).set := by
  exact (View.set_reshape _ _).trans (View.set_slice_whole _ _)

/-- Each of the three slots lies within the scratch buffer. -/
theorem slot_inb (h : Fin 3) : ∀ a, (![h.val, 0, 0] : Fin 3 → ℕ) a + S1x1024x4096.size a ≤ S3x1024x4096.size a := by
  revert h; decide

/-- The elements of slot `h`, in the scratch buffer. -/
def part (h : Fin 3) : Finset S3x1024x4096.Idx := (slotRect h.val (slot_inb h)).set

/-- An element is in slot `h` if its first index is `h`. -/
theorem mem_part (h : Fin 3) (i : S3x1024x4096.Idx) : i ∈ part h ↔ (i 0).val = h.val := by
  unfold part
  rw [Rect.mem_set_unit]
  constructor
  · intro H
    have := H 0
    have h1 : (![h.val, 0, 0] : Fin 3 → ℕ) 0 = h.val := rfl
    have h2 : S1x1024x4096.size 0 = 1 := rfl
    rw [h1, h2] at this
    omega
  · intro H a
    match a with
    | ⟨0, _⟩ => exact ⟨H.ge, by show (i 0).val < h.val + 1; omega⟩
    | ⟨1, _⟩ => exact ⟨Nat.zero_le _, by
        have : (i 1).val < 1024 := (i 1).isLt
        show (i 1).val < 0 + 1024; omega⟩
    | ⟨2, _⟩ => exact ⟨Nat.zero_le _, by
        have : (i 2).val < 4096 := (i 2).isLt
        show (i 2).val < 0 + 4096; omega⟩

/-- Different slots share no element. -/
theorem part_disjoint (h h' : Fin 3) (hn : h ≠ h') : Disjoint (part h) (part h') :=
  Finset.disjoint_left.mpr fun i hi hi' => hn (Fin.ext (((mem_part h i).mp hi).symm.trans ((mem_part h' i).mp hi')))

/-- The slots cover the scratch buffer. -/
theorem part_cover : Finset.univ.biUnion part = Finset.univ := by
  refine Finset.eq_univ_iff_forall.mpr fun i => Finset.mem_biUnion.mpr ⟨⟨(i 0).val, (i 0).isLt⟩, Finset.mem_univ _, ?_⟩
  exact (mem_part _ i).mpr rfl

/-- One resource for each of three, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- A scratch buffer is its three slots. -/
theorem scr_split (c : Dev nD) : (scr c : sProp 𝕄) ⊢ iprop(some_ c slot0 ∗ some_ c slot1 ∗ some_ c slot2) := by
  unfold scr some_
  iintro ⟨%f, H⟩
  ihave H' := (Entails.of_eq ((Ring.pointsTo_blocks (ℓ := (c : Thread nD τ).loc cc0_scratch0) part part_disjoint part_cover f).trans
    (bigSep_three _))) $$ H
  icases H' with ⟨H0, H1, H2⟩
  isplitl [H0]
  · iexists f; rw [slot_set]; iexact H0
  isplitl [H1]
  · iexists f; rw [slot_set]; iexact H1
  · iexists f; rw [slot_set]; iexact H2

/-- The three slots at any contents are a scratch buffer. -/
theorem scr_join (c : Dev nD) (X₀ X₁ X₂ : S1024x4096.Idx → Elt F .fp8e4m3) :
    iprop(has c slot0 fullShare X₀ ∗ has c slot1 fullShare X₁ ∗ has c slot2 fullShare X₂) ⊢ (scr c : sProp 𝕄) := by
  unfold has owns
  iintro ⟨⟨%f0, -, H0⟩, ⟨%f1, -, H1⟩, ⟨%f2, -, H2⟩⟩
  unfold scr
  iapply (Ring.pointsTo_blocks_join_exists (ℓ := (c : Thread nD τ).loc cc0_scratch0) part part_disjoint part_cover f0)
  rw [bigSep_three]
  rw [slot_set, slot_set, slot_set]
  isplitl [H0]
  · iexists f0; iexact H0
  isplitl [H1]
  · iexists f1; iexact H1
  · iexists f2; iexact H2

/-! ## The steps -/

section Steps

/-- Running `p` on device `c` ends in `Q`. -/
abbrev wpK (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Fin 7 → ℕ) (c : Dev nD)
/-- Signalling the previous device's barrier hands it this device's scratch buffer. -/
theorem signal_prv {α : Type} {Q : α → sProp 𝕄} {k : PUnit → Prog (TpuEff nD τ sig (Elt F) Λ₀ .tc) α}
    (n : Dev nD) (hn : n = prv c) (j : ℕ) (hj : j = 1) (O : CellTallies nD τ sig Unit) (W : Waits sig Unit) :
    iprop(records m ρ K ∗ owes (c : Thread nD τ) (O + tallyAt (cell (prv c) 0) () 1) W ∗ tok (prv c) 0 true ∗ scr c)
      ⊢ iprop((owes (c : Thread nD τ) O W -∗ wpK c (k ⟨⟩) Q) -∗ wpK c (.op (.semSignal (n : Thread nD τ) barS j) k) Q) := by
  subst hn hj
  iintro ⟨#HR, HO, Ht, Hs⟩
  iapply (Rounds.wp_signal 𝒱₀ ER (ringRd m ρ) (c : Thread nD τ) none (dst := (prv c : Thread nD τ)) (κ := K (prv c, 0))
      (d := true) (by rw [duties_bar m ρ (prv c)]; exact Finset.mem_univ _) (amount_bar m ρ (prv c) true) () O rfl)
  isplitr; · iapply (inv_at m ρ K (prv c) 0); iexact HR
  isplitl [HO]; · iexact HO
  isplitl [Ht]; · iexact Ht
  isplitl [Hs]
  · iapply (Entails.of_eq (show scr c = (ringRd m ρ).payload (cell (prv c) 0) 0 true by rw [payload_eq]; unfold pay; rw [nxt_prv])); iexact Hs
  · iapply (reached_at m ρ K (prv c) 0); iexact HR

/-- Signalling the next device's barrier hands over nothing. -/
theorem signal_nxt {α : Type} {Q : α → sProp 𝕄} {k : PUnit → Prog (TpuEff nD τ sig (Elt F) Λ₀ .tc) α}
    (n : Dev nD) (hn : n = nxt c) (j : ℕ) (hj : j = 1) (O : CellTallies nD τ sig Unit) (W : Waits sig Unit) :
    iprop(records m ρ K ∗ owes (c : Thread nD τ) (O + tallyAt (cell (nxt c) 0) () 1) W ∗ tok (nxt c) 0 false)
      ⊢ iprop((owes (c : Thread nD τ) O W -∗ wpK c (k ⟨⟩) Q) -∗ wpK c (.op (.semSignal (n : Thread nD τ) barS j) k) Q) := by
  subst hn hj
  iintro ⟨#HR, HO, Ht⟩
  iapply (Rounds.wp_signal 𝒱₀ ER (ringRd m ρ) (c : Thread nD τ) none (dst := (nxt c : Thread nD τ)) (κ := K (nxt c, 0))
      (d := false) (by rw [duties_bar m ρ (nxt c)]; exact Finset.mem_univ _) (amount_bar m ρ (nxt c) false) () O rfl)
  isplitr; · iapply (inv_at m ρ K (nxt c) 0); iexact HR
  isplitl [HO]; · iexact HO
  isplitl [Ht]; · iexact Ht
  isplitr
  · iapply (Entails.of_eq (show iprop(emp) = (ringRd m ρ).payload (cell (nxt c) 0) 0 false by rw [payload_eq]; unfold pay; rfl)); iempintro
  · iapply (reached_at m ρ K (nxt c) 0); iexact HR

/-- Waiting for both neighbours' signals gives the next device's scratch buffer. -/
theorem wait_bar {α : Type} {Q : α → sProp 𝕄} {k : PUnit → Prog (TpuEff nD τ sig (Elt F) Λ₀ .tc) α}
    (j : ℕ) (hj : j = 2) (O : CellTallies nD τ sig Unit) (hO : Above 1 O) (W : Waits sig Unit) :
    iprop(records m ρ K ∗ levAts L lv ∗ cred (tallyAt (cell c 0) () 2) ∗ owes (c : Thread nD τ) O W ∗ pos c 0)
      ⊢ iprop((owes (c : Thread nD τ) O (insert (csem 0, ()) W) ∗ atPos ER (cell c 0) 1 ∅ 0 ∗ scr (nxt c) -∗ wpK c (k ⟨⟩) Q)
        -∗ wpK c (.op (.semWait barS j) k) Q) := by
  subst hj
  iintro ⟨#HR, #HL, Hc, HO, Hp⟩ Hk
  iapply (Rounds.wp_wait_rest_token 𝒱₀ ER (ringRd m ρ) (c : Thread nD τ) none (κ := K (c, 0))
      (wpE_semWait_eq 𝒱₀ (c : Thread nD τ) none Set.univ) (Set.mem_univ _) () (O := O) (W := W) (R := 0) (m := 0) (T := ∅)
      (expect_bar m ρ c).symm) $$ [Hc HO Hp]
  · isplitr; · iapply (inv_at m ρ K c 0); iexact HR
    isplitl [Hc]; · iexact Hc
    isplitl [HO]; · iexact HO
    isplitr; · iapply (mayWait_of c (csem 0) 1 (lvS_csem 0) O hO); iexact HL
    iexact Hp
  iintro ⟨HO, Hp, -, Hpay⟩
  ihave Hs := (Entails.of_eq (rest_bar m ρ c)) $$ Hpay
  icases Hs with ⟨-, Hs⟩
  iapply Hk
  isplitl [HO]; · iexact HO
  isplitl [Hp]; · iexact Hp
  iexact Hs

/-- Waiting for a copy's bytes on the cell `i` gives what that cell hands over. -/
theorem wait_dma {α : Type} {Q : α → sProp 𝕄} {k : PUnit → Prog (TpuEff nD τ sig (Elt F) Λ₀ .tc) α}
    (i : Fin 7) (hi : i ≠ 0) (q : DmaSem sig) (hq : csem i = .dma q) {κ' : Kind} {sp sp' : Space} {s s' : Shape} {e e' : EltTy}
    (src : Memref sig .tc sp' s' e') (dst : Memref sig κ' sp s e) (hs : src.view.WordExact) (hd : dst.view.WordExact) (hN : dst.view.dmaCredit = N)
    (l : ℕ) (hl : lvS (csem i) = l) (O : CellTallies nD τ sig Unit) (hO : Above l O) (W : Waits sig Unit) :
    iprop(records m ρ K ∗ levAts L lv ∗ cred (tallyAt (cell c i) () N) ∗ owes (c : Thread nD τ) O W ∗ pos c i)
      ⊢ iprop((owes (c : Thread nD τ) O (insert (csem i, ()) W) ∗ atPos ER (cell c i) 1 ∅ 0 ∗ pay m ρ c i false -∗ wpK c (k ⟨⟩) Q)
        -∗ wpK c (.op (.waitDma2 q src dst hs hd) k) Q) := by
  have hR := rest_dma m ρ c i hi
  have hE := expect_dma m ρ c i hi
  have hI := inv_at m ρ K c i
  have hM := mayWait_of (F := F) c (csem i) l hl O hO
  unfold pos
  unfold cell at *
  rw [hq] at *
  rw [← hN] at *
  iintro ⟨#HR, #HL, Hc, HO, Hp⟩ Hk
  iapply (Rounds.wp_wait_rest_token 𝒱₀ ER (ringRd m ρ) (c : Thread nD τ) none (κ := K (c, i))
      (wpE_waitDma2_eq 𝒱₀ (c : Thread nD τ) none Set.univ) (Set.mem_univ _) () (O := O) (W := W) (R := 0) (m := 0) (T := ∅)
      ((Nat.zero_add _).trans hE.symm)) $$ [Hc HO Hp]
  · isplitr; · iapply hI; iexact HR
    isplitl [Hc]; · iexact Hc
    isplitl [HO]; · iexact HO
    isplitr; · iapply hM; iexact HL
    iexact Hp
  iintro ⟨HO, Hp, -, Hpay⟩
  ihave Hs := (Entails.of_eq hR) $$ Hpay
  iapply Hk
  isplitl [HO]; · iexact HO
  isplitl [Hp]; · iexact Hp
  iexact Hs

/-- Copying `src`, of which this device lends one half, into `dst` of the next device: the half comes back through the send
    cell `a`, the filled `dst` goes through the next device's receive cell `b`. -/
theorem copy {α : Type} {Q : α → sProp 𝕄} {k : PUnit → Prog (TpuEff nD τ sig (Elt F) Λ₀ .tc) α}
    (n : Dev nD) (hn : n = nxt c) (a b : Fin 7) (ha : a ≠ 0) (hb : b ≠ 0)
    (src dst : Memref sig .tc .vmem S1024x4096 .fp8e4m3) (X : S1024x4096.Idx → Elt F .fp8e4m3)
    (hpa : pay m ρ c a false = has c src fullShare.left X) (hpb : pay m ρ (nxt c) b false = has (nxt c) dst fullShare X)
    (hN : dst.view.amount (csem b) = N)
    {hsc : dst.view.ref.isScScratch = false} {hsrc : src.view.WordExact} {hdst : dst.view.WordExact}
    {hsem : DmaTarget.Typed .vmem (csem b) (.remote (Dev.tc n : Thread nD τ) dst (csem a) hsc)}
    (O : CellTallies nD τ sig Unit) (W : Waits sig Unit) :
    iprop(records m ρ K ∗ has c src fullShare.left X ∗ some_ (nxt c) dst ∗ owes (c : Thread nD τ) (O + debt c b) W
        ∗ tok c a false ∗ tok (nxt c) b false)
      ⊢ iprop((cred (tallyAt (cell c a) () N) ∗ owes (c : Thread nD τ) O W -∗ wpK c (k ⟨⟩) Q)
        -∗ wpK c (.op (.enqueueDma src (.remote (Dev.tc n : Thread nD τ) dst (csem a) hsc) (csem b) hsrc hdst hsem) k) Q) := by
  subst hn
  unfold has owns some_
  iintro ⟨#HR, ⟨%fs, %hX, Hs⟩, ⟨%fd, Hd⟩, HO, Hta, Htb⟩
  iapply (Rounds.wp_send_pointsTo 𝒱₀ ER (ringRd m ρ) (c : Thread nD τ) none (κ₁ := K (c, a)) (κ₂ := K (nxt c, b))
    (r₁ := 0) (r₂ := 0) (d₁ := false) (d₂ := false) (fs := fs) (fd := fd) (q := fullShare.left)
    (by rw [duties_dma m ρ c a ha]; exact Finset.mem_singleton_self _) (by rw [duties_dma m ρ (nxt c) b hb]; exact Finset.mem_singleton_self _)
    () () N hN (amount_dma m ρ c a ha false) (amount_dma m ρ (nxt c) b hb false) O rfl (W := W)
    (by
      rw [payload_eq, hpa]; unfold has owns
      iintro H; iexists fs; isplitr; · ipureintro; exact hX
      iexact H)
    (by
      rw [payload_eq, hpb]; unfold has owns
      iintro H; iexists (dst.view.write (Elt F) fd (src.view.read (Elt F) fs) Finset.univ); isplitr
      · ipureintro; exact (View.read_write_univ _ _).trans hX
      iexact H))
  isplitr; · iapply (inv_at m ρ K c a); iexact HR
  isplitr; · iapply (inv_at m ρ K (nxt c) b); iexact HR
  isplitl [Hs]; · iexact Hs
  isplitl [Hd]; · iexact Hd
  isplitl [HO]; · iexact HO
  isplitl [Hta]; · iexact Hta
  isplitr; · iapply (reached_at m ρ K c a); iexact HR
  isplitl [Htb]; · iexact Htb
  iapply (reached_at m ρ K (nxt c) b); iexact HR

/-- A cell whose one round is over closes: its counter is zero and the device's own again. -/
theorem close (i : Fin 7) : iprop(records m ρ K ∗ atPos ER (cell c i) 1 ∅ 0) ⊢ |={Set.univ}=> (semVal (cell c i) 0 : sProp 𝕄) := by
  iintro ⟨#HR, Hp⟩
  imod (Rounds.cell_close ER (ringRd m ρ) (Set.mem_univ (K (c, i))) (fun h => h) (R := 0 + 1) (duties_later m ρ (cell c i))) $$ [Hp] with Hz
  · isplitr; · iapply (inv_at m ρ K c i); iexact HR
    iexact Hp
  imodintro
  iexact Hz

end Steps

end Cert.Gather

end
-- ==== Proof.Body.lean ====
/-
# The kernel body, run once at a symbolic device

From the ring's ghost state, the staged operands and the scratch buffer, one rule per effect in program order: the two barrier
signals and the wait, the three copies and the waits for them, the four products stored row block by row block.
-/
module

public import proofs.«01_k».proof.Proof.Rules

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the loads read and the stores write -/

/-- The offset (0, 0) is zero on both axes. -/
theorem zeros2 : (![0, 0] : Fin 2 → Nat) = fun _ => 0 := funext fun a => by fin_cases a <;> rfl
/-- The offset (0) is zero on its axis. -/
theorem zeros1 : (![0] : Fin 1 → Nat) = fun _ => 0 := funext fun a => by fin_cases a; rfl

/-- A load of the whole block of `x` reads what the buffer holds. -/
theorem read_x (f : S1024x4096.Idx → Elt F .fp8e4m3) :
    xM.view.readAt (Elt F) (Rect.unit (s := S1024x4096) ![0, 0] S1024x4096.size inb_S1024x4096_S1024x4096_0_0).toLoadRect f = f :=
  Memref.readAt_unit_zero (Elt F) cc0_stg0_0 zeros2 _ f
/-- A load of the whole block of `w` reads what the buffer holds. -/
theorem read_w (f : S4096x2048.Idx → Elt F .fp8e5m2) :
    wM.view.readAt (Elt F) (Rect.unit (s := S4096x2048) ![0, 0] S4096x2048.size inb_S4096x2048_S4096x2048_0_0).toLoadRect f = f :=
  Memref.readAt_unit_zero (Elt F) cc0_stg1_0 zeros2 _ f

/-- A one-element vector has one index. -/
theorem idx_one (i j : S1.Idx) : i = j := funext fun a => by
  match a with
  | ⟨0, _⟩ => exact Subsingleton.elim (α := Fin 1) _ _

/-- A load of the first scale reads its one element. -/
theorem read_a (f : S1.Idx → Elt F .f32) :
    aM.view.readAt (Elt F) (Rect.unit (s := S1) ![0] S1.size inb_S1_S1_0).toLoadRect f = fun _ => f i₀ :=
  (Memref.readAt_unit_zero (Elt F) cc0_stg2_0 zeros1 _ f).trans (funext fun i => congrArg f (idx_one _ _))
/-- A load of the second scale reads its one element. -/
theorem read_b (f : S1.Idx → Elt F .f32) :
    bM.view.readAt (Elt F) (Rect.unit (s := S1) ![0] S1.size inb_S1_S1_0).toLoadRect f = fun _ => f i₀ :=
  (Memref.readAt_unit_zero (Elt F) cc0_stg3_0 zeros1 _ f).trans (funext fun i => congrArg f (idx_one _ _))

/-- The reshape of the device's own block of `x` changes nothing. -/
theorem pay2_eq (x : S1024x4096.Idx → Elt F .fp8e4m3) : k0_pay2 x = x := shapeCast_self _ _
/-- The reshape of the block of `w` for the first product changes nothing. -/
theorem pay3_eq (w : S4096x2048.Idx → Elt F .fp8e5m2) : k0_pay3 w = w := shapeCast_self _ _
/-- Nor does the one for the later products. -/
theorem pay6_eq (w : S4096x2048.Idx → Elt F .fp8e5m2) : k0_pay6 w = w := shapeCast_self _ _
/-- A block loaded from the scratch buffer and reshaped is what the slot reads. -/
theorem pay5_eq {X : S1024x4096.Idx → Elt F .fp8e4m3} {f : S3x1024x4096.Idx → Elt F .fp8e4m3} (h : slot0.view.read (Elt F) f = X) :
    k0_pay5 (rM.view.readAt (Elt F) (slotRect 0 inb_S3x1024x4096_S1x1024x4096_0_0_0).toLoadRect f) = X := h
/-- The same of slot 1. -/
theorem pay8_eq {X : S1024x4096.Idx → Elt F .fp8e4m3} {f : S3x1024x4096.Idx → Elt F .fp8e4m3} (h : slot1.view.read (Elt F) f = X) :
    k0_pay8 (rM.view.readAt (Elt F) (slotRect 1 inb_S3x1024x4096_S1x1024x4096_1_0_0).toLoadRect f) = X := h
/-- The first store writes the tile of its two blocks. -/
theorem pay4_eq (s : F .f32) (x : S1024x4096.Idx → Elt F .fp8e4m3) (w : S4096x2048.Idx → Elt F .fp8e5m2) :
    k0_pay4 s x w (constant S1024x2048 .f32 0x00000000#32) = tile s x w := rfl
/-- So does the second, -/
theorem pay7_eq (s : F .f32) (x : S1024x4096.Idx → Elt F .fp8e4m3) (w : S4096x2048.Idx → Elt F .fp8e5m2) :
    k0_pay7 s x w (constant S1024x2048 .f32 0x00000000#32) = tile s x w := rfl
/-- and the third, -/
theorem pay9_eq (s : F .f32) (x : S1024x4096.Idx → Elt F .fp8e4m3) (w : S4096x2048.Idx → Elt F .fp8e5m2) :
    k0_pay9 s x w = tile s x w := by
  unfold k0_pay9; rw [shapeCast_self]; rfl
/-- and the fourth, whose block of `x` is what slot 2 reads. -/
theorem pay10_eq (s : F .f32) {X : S1024x4096.Idx → Elt F .fp8e4m3} {f : S3x1024x4096.Idx → Elt F .fp8e4m3} (h : slot2.view.read (Elt F) f = X)
    (w : S4096x2048.Idx → Elt F .fp8e5m2) :
    k0_pay10 s (rM.view.readAt (Elt F) (slotRect 2 inb_S3x1024x4096_S1x1024x4096_2_0_0).toLoadRect f) w = tile s X w := by
  subst h; unfold k0_pay10; rw [shapeCast_self]; rfl

/-- On the rectangle that starts at row `1024 d` the result holds the tile of device `d`'s block of `x`. -/
theorem row_piece (c d : Dev nD) (off : Fin 2 → ℕ) (hoff : off = ![1024 * d.val, 0]) (inb : ∀ a, off a + S1024x2048.size a ≤ S4096x2048.size a)
    (x : S1024x2048.Idx) :
    tile (scale m ρ c) (xstg m ρ d) (wstg m ρ c) x = outAt m ρ c ((Rect.unit (s := S4096x2048) off S1024x2048.size inb).emb x) := by
  subst hoff
  have h0 : (x 0).val < 1024 := (x 0).isLt
  have e0 : ((Rect.unit (s := S4096x2048) ![1024 * d.val, 0] S1024x2048.size inb).emb x 0).val = 1024 * d.val + (x 0).val := by
    show 1024 * d.val + 1 * (x 0).val = _; omega
  have e1 : ((Rect.unit (s := S4096x2048) ![1024 * d.val, 0] S1024x2048.size inb).emb x 1).val = (x 1).val := by
    show 0 + 1 * (x 1).val = _; omega
  have hd : rowDev ((Rect.unit (s := S4096x2048) ![1024 * d.val, 0] S1024x2048.size inb).emb x) = d :=
    Fin.ext (by show _ / 1024 = _; rw [e0]; omega)
  have hr : rowIn ((Rect.unit (s := S4096x2048) ![1024 * d.val, 0] S1024x2048.size inb).emb x) = x := funext fun a => by
    match a with
    | ⟨0, _⟩ => exact Fin.ext (by show _ % 1024 = (x 0).val; rw [e0]; omega)
    | ⟨1, _⟩ => exact Fin.ext e1
  unfold outAt
  rw [hd, hr]

/-- A row of device `d`'s block lies in the rectangle that starts at row `1024 d`. -/
theorem row_mem (i : S4096x2048.Idx) (d : Dev nD) (hd : (i 0).val / 1024 = d.val) (off : Fin 2 → ℕ) (hoff : off = ![1024 * d.val, 0])
    (inb : ∀ a, off a + S1024x2048.size a ≤ S4096x2048.size a) : i ∈ (Rect.unit (s := S4096x2048) off S1024x2048.size inb).set := by
  subst hoff
  rw [Rect.mem_set_unit]
  intro a
  match a with
  | ⟨0, _⟩ =>
    show 1024 * d.val ≤ (i 0).val ∧ (i 0).val < 1024 * d.val + 1024
    omega
  | ⟨1, _⟩ =>
    have : (i 1).val < 2048 := (i 1).isLt
    exact ⟨Nat.zero_le _, by show (i 1).val < 0 + 2048; omega⟩

/-- The second store starts at the first row of the previous device's block, -/
theorem off_prv1 (c : Dev nD) : k0_off2 c 3#32 = ![1024 * (prv c).val, 0] := k0_off2_eq c 2
/-- the third at that of the device two places behind, -/
theorem off_prv2 (c : Dev nD) : k0_off2 c 2#32 = ![1024 * (prv (prv c)).val, 0] :=
  (k0_off2_eq c 1).trans (by revert c; decide)
/-- and the fourth at that of the device three places behind. -/
theorem off_prv3 (c : Dev nD) : k0_off2 c 1#32 = ![1024 * (prv (prv (prv c))).val, 0] :=
  (k0_off2_eq c 0).trans (by revert c; decide)

/-- The rectangle of the result that the first store fills: the device's own block. -/
abbrev rect1 (c : Dev nD) : Rect S4096x2048 := Rect.unit (s := S4096x2048) (k0_off1 c) S1024x2048.size (k0_off1_inb c)
/-- The second store's: the block of the previous device. -/
abbrev rect2 (c : Dev nD) : Rect S4096x2048 := Rect.unit (s := S4096x2048) (k0_off2 c 3#32) S1024x2048.size (k0_off2_inb c 2)
/-- The third store's: the block of the device two places behind. -/
abbrev rect3 (c : Dev nD) : Rect S4096x2048 := Rect.unit (s := S4096x2048) (k0_off2 c 2#32) S1024x2048.size (k0_off2_inb c 1)
/-- The fourth store's: the block of the device three places behind. -/
abbrev rect4 (c : Dev nD) : Rect S4096x2048 := Rect.unit (s := S4096x2048) (k0_off2 c 1#32) S1024x2048.size (k0_off2_inb c 0)

/-- Four stores over any contents leave `G`, where each stores what `G` has in its rectangle and the rectangles cover the buffer. -/
theorem stores_cover (G g : S4096x2048.Idx → Elt F .f32) (r₁ r₂ r₃ r₄ : Rect S4096x2048) (v₁ : r₁.shape.Idx → Elt F .f32)
    (v₂ : r₂.shape.Idx → Elt F .f32) (v₃ : r₃.shape.Idx → Elt F .f32) (v₄ : r₄.shape.Idx → Elt F .f32)
    (h₁ : ∀ x, v₁ x = G (r₁.emb x)) (h₂ : ∀ x, v₂ x = G (r₂.emb x)) (h₃ : ∀ x, v₃ x = G (r₃.emb x)) (h₄ : ∀ x, v₄ x = G (r₄.emb x))
    (cover : ∀ i, i ∈ r₄.set ∨ i ∈ r₃.set ∨ i ∈ r₂.set ∨ i ∈ r₁.set) :
    (oM.access r₄).write (Elt F) ((oM.access r₃).write (Elt F) ((oM.access r₂).write (Elt F)
      ((oM.access r₁).write (Elt F) g v₁ Finset.univ) v₂ Finset.univ) v₃ Finset.univ) v₄ Finset.univ = G := by
  funext i
  refine View.read_writes_apply_of_pieces (Val := Elt F) oM.view g G [⟨r₄, v₄⟩, ⟨r₃, v₃⟩, ⟨r₂, v₂⟩, ⟨r₁, v₁⟩] ?_ i ?_
  · intro p hp
    simp only [List.mem_cons, List.not_mem_nil, or_false] at hp
    rcases hp with rfl | rfl | rfl | rfl
    · exact h₄
    · exact h₃
    · exact h₂
    · exact h₁
  · rcases cover i with h | h | h | h
    · exact ⟨⟨r₄, v₄⟩, by simp, h⟩
    · exact ⟨⟨r₃, v₃⟩, by simp, h⟩
    · exact ⟨⟨r₂, v₂⟩, by simp, h⟩
    · exact ⟨⟨r₁, v₁⟩, by simp, h⟩

/-- Every device is at most three places behind any other. -/
theorem four_devices (c d : Dev nD) : d = prv (prv (prv c)) ∨ d = prv (prv c) ∨ d = prv c ∨ d = c := by
  revert c d; decide

/-- Whatever the result buffer held, the four stores leave `outAt` in it. -/
theorem four_stores (c : Dev nD) (g : S4096x2048.Idx → Elt F .f32) :
    (oM.access (rect4 c)).write (Elt F) ((oM.access (rect3 c)).write (Elt F) ((oM.access (rect2 c)).write (Elt F)
      ((oM.access (rect1 c)).write (Elt F) g (tile (scale m ρ c) (xstg m ρ c) (wstg m ρ c)) Finset.univ)
        (tile (scale m ρ c) (xstg m ρ (prv c)) (wstg m ρ c)) Finset.univ)
        (tile (scale m ρ c) (xstg m ρ (prv (prv c))) (wstg m ρ c)) Finset.univ)
        (tile (scale m ρ c) (xstg m ρ (prv (prv (prv c)))) (wstg m ρ c)) Finset.univ = outAt m ρ c :=
  stores_cover (outAt m ρ c) g (rect1 c) (rect2 c) (rect3 c) (rect4 c) _ _ _ _
    (row_piece m ρ c _ _ (k0_off1_eq c) _) (row_piece m ρ c _ _ (off_prv1 c) _) (row_piece m ρ c _ _ (off_prv2 c) _)
    (row_piece m ρ c _ _ (off_prv3 c) _) fun i => by
      have hi : (i 0).val / 1024 < 4 := by
        have h : (i 0).val < 4096 := (i 0).isLt
        omega
      rcases four_devices c ⟨(i 0).val / 1024, hi⟩ with h | h | h | h
      · exact .inl (row_mem i _ (congrArg Fin.val h) _ (off_prv3 c) _)
      · exact .inr (.inl (row_mem i _ (congrArg Fin.val h) _ (off_prv2 c) _))
      · exact .inr (.inr (.inl (row_mem i _ (congrArg Fin.val h) _ (off_prv1 c) _)))
      · exact .inr (.inr (.inr (row_mem i _ (congrArg Fin.val h) _ (k0_off1_eq c) _)))

/-! ## Loads, at what a device holds of a buffer -/

section Loads

variable (c : Dev nD)

/-- A load of the block of `x`, from any share of its buffer, continues with the block and keeps the buffer. -/
theorem load_x {α : Type} {Q : α → sProp 𝕄} (q : PosShare TreeShare) (X : S1024x4096.Idx → Elt F .fp8e4m3) {hl}
    {k : (S1024x4096.Idx → Elt F .fp8e4m3) → Prog (TpuEff nD τ sig (Elt F) Λ₀ .tc) α} :
    (has c xM q X : sProp 𝕄) ⊢ iprop((has c xM q X -∗ wpK c (k X) Q)
      -∗ wpK c (.op (.load xM (Rect.unit (s := S1024x4096) ![0, 0] S1024x4096.size inb_S1024x4096_S1024x4096_0_0).toLoadRect hl) k) Q) := by
  unfold has owns
  iintro ⟨%f, %hf, H⟩ Hk
  have hX : f = X := hf
  subst hX
  iapply (wp_load 𝒱₀ (c : Thread nD τ) none Set.univ (m := xM) (by rw [View.set_whole]; exact Finset.subset_univ _)) $$ H
  iintro H
  rw [read_x]
  iapply Hk
  iexists f
  isplitr; · ipureintro; exact hf
  iexact H

/-- A load of the block of `w` continues with the block and keeps the buffer. -/
theorem load_w {α : Type} {Q : α → sProp 𝕄} (X : S4096x2048.Idx → Elt F .fp8e5m2) {hl}
    {k : (S4096x2048.Idx → Elt F .fp8e5m2) → Prog (TpuEff nD τ sig (Elt F) Λ₀ .tc) α} :
    (has c wM fullShare X : sProp 𝕄) ⊢ iprop((has c wM fullShare X -∗ wpK c (k X) Q)
      -∗ wpK c (.op (.load wM (Rect.unit (s := S4096x2048) ![0, 0] S4096x2048.size inb_S4096x2048_S4096x2048_0_0).toLoadRect hl) k) Q) := by
  unfold has owns
  iintro ⟨%f, %hf, H⟩ Hk
  have hX : f = X := hf
  subst hX
  iapply (wp_load 𝒱₀ (c : Thread nD τ) none Set.univ (m := wM) (by rw [View.set_whole]; exact Finset.subset_univ _)) $$ H
  iintro H
  rw [read_w]
  iapply Hk
  iexists f
  isplitr; · ipureintro; exact hf
  iexact H

/-- A load of the first scale continues with it and keeps the buffer. -/
theorem load_a {α : Type} {Q : α → sProp 𝕄} (X : S1.Idx → Elt F .f32) {hl} {k : (S1.Idx → Elt F .f32) → Prog (TpuEff nD τ sig (Elt F) Λ₀ .tc) α} :
    (has c aM fullShare X : sProp 𝕄) ⊢ iprop((has c aM fullShare X -∗ wpK c (k fun _ => X i₀) Q)
      -∗ wpK c (.op (.load aM (Rect.unit (s := S1) ![0] S1.size inb_S1_S1_0).toLoadRect hl) k) Q) := by
  unfold has owns
  iintro ⟨%f, %hf, H⟩ Hk
  have hX : f = X := hf
  subst hX
  iapply (wp_load 𝒱₀ (c : Thread nD τ) none Set.univ (m := aM) (by rw [View.set_whole]; exact Finset.subset_univ _)) $$ H
  iintro H
  rw [read_a]
  iapply Hk
  iexists f
  isplitr; · ipureintro; exact hf
  iexact H

/-- A load of the second scale continues with it and keeps the buffer. -/
theorem load_b {α : Type} {Q : α → sProp 𝕄} (X : S1.Idx → Elt F .f32) {hl} {k : (S1.Idx → Elt F .f32) → Prog (TpuEff nD τ sig (Elt F) Λ₀ .tc) α} :
    (has c bM fullShare X : sProp 𝕄) ⊢ iprop((has c bM fullShare X -∗ wpK c (k fun _ => X i₀) Q)
      -∗ wpK c (.op (.load bM (Rect.unit (s := S1) ![0] S1.size inb_S1_S1_0).toLoadRect hl) k) Q) := by
  unfold has owns
  iintro ⟨%f, %hf, H⟩ Hk
  have hX : f = X := hf
  subst hX
  iapply (wp_load 𝒱₀ (c : Thread nD τ) none Set.univ (m := bM) (by rw [View.set_whole]; exact Finset.subset_univ _)) $$ H
  iintro H
  rw [read_b]
  iapply Hk
  iexists f
  isplitr; · ipureintro; exact hf
  iexact H

/-- A load of slot `h` through the scratch buffer, from any share of the slot. -/
theorem load_slot {α : Type} {Q : α → sProp 𝕄} (h : ℕ) (hb) (q : PosShare TreeShare) (X : S1024x4096.Idx → Elt F .fp8e4m3) {hl}
    {k : (S1x1024x4096.Idx → Elt F .fp8e4m3) → Prog (TpuEff nD τ sig (Elt F) Λ₀ .tc) α} :
    (has c (slot h hb) q X : sProp 𝕄) ⊢ iprop((∀ f, ⌜(slot h hb).view.read (Elt F) f = X⌝ -∗ has c (slot h hb) q X
          -∗ wpK c (k (rM.view.readAt (Elt F) (slotRect h hb).toLoadRect f)) Q)
      -∗ wpK c (.op (.load rM (slotRect h hb).toLoadRect hl) k) Q) := by
  have hS : rM.view.setOn (slotRect h hb).toLoadRect.set ⊆ (slot h hb).view.set := by
    rw [slot_set]; intro i hi
    obtain ⟨j, hj, rfl⟩ := Finset.mem_map.mp hi
    exact hj
  unfold has owns
  iintro ⟨%f, %hf, H⟩ Hk
  iapply (wp_load 𝒱₀ (c : Thread nD τ) none Set.univ (m := rM) hS) $$ H
  iintro H
  ispecialize Hk $$ %f %hf
  iapply Hk
  iexists f
  isplitr; · ipureintro; exact hf
  iexact H

end Loads

/-! ## The body -/

section Body

variable (K : Dev nD × Fin 7 → ℕ) (c : Dev nD)

/-- One resource for each of the five windows, written out. -/
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- Before the body the first staging buffer holds the block of `x`, -/
theorem before_x (d) : (dats m ρ 0 c).before (0 : Fin 5) t₀ d = xstg m ρ c := by unfold Dat.before; rw [if_pos (fetch0_0 t₀)]; rfl
/-- the second the block of `w`, -/
theorem before_w (d) : (dats m ρ 0 c).before (1 : Fin 5) t₀ d = wstg m ρ c := by unfold Dat.before; rw [if_pos (fetch0_1 t₀)]; rfl
/-- the third the first scale, -/
theorem before_a (d) : (dats m ρ 0 c).before (2 : Fin 5) t₀ d = astg m ρ c := by unfold Dat.before; rw [if_pos (fetch0_2 t₀)]; rfl
/-- and the fourth the second scale. -/
theorem before_b (d) : (dats m ρ 0 c).before (3 : Fin 5) t₀ d = bstg m ρ c := by unfold Dat.before; rw [if_pos (fetch0_3 t₀)]; rfl

/-- What the body starts from: the ring's ghost state, the scratch buffer, the debts, the staged operands and the result's buffer at any contents. -/
def bodyPre : sProp 𝕄 :=
  iprop((ghost m ρ K c ∗ creds c ∗ levAts L lv ∗ scr c)
    ∗ (dats m ρ 0 c).owesAt () t₀.castSucc
    ∗ has c xM fullShare (xstg m ρ c) ∗ has c wM fullShare (wstg m ρ c) ∗ has c aM fullShare (astg m ρ c) ∗ has c bM fullShare (bstg m ρ c)
    ∗ (∃ g, has c oM fullShare g))

/-- What the body ends with: the scratch buffer, the cells at zero, no debts, the operands as they were and the result at `outAt`. -/
def bodyPost : sProp 𝕄 :=
  iprop(Φ₁ c ∗ (dats m ρ 0 c).owesAt () t₀.succ
    ∗ has c xM fullShare (xstg m ρ c) ∗ has c wM fullShare (wstg m ρ c) ∗ has c aM fullShare (astg m ρ c) ∗ has c bM fullShare (bstg m ρ c)
    ∗ has c oM fullShare (outAt m ρ c))

/-- A device that holds the result's buffer at known contents holds it at some contents. -/
theorem owns_pts (g : S4096x2048.Idx → Elt F .f32) :
    (has c oM fullShare g : sProp 𝕄) ⊢ iprop(∃ f, oM.view.loc (c : Thread nD τ) ↦[oM.view.set]{fullShare} f) := by
  unfold has owns
  iintro ⟨%f, %hf, H⟩
  iexists f
  iexact H

set_option maxHeartbeats 4000000 in
set_option maxRecDepth 8000 in
/-- The body, one rule per effect in program order. -/
theorem sound_body (Kt : PUnit → sProp 𝕄) :
    iprop(bodyPre m ρ K c ∗ (bodyPost m ρ c -∗ Kt ⟨⟩))
      ⊢ wpK c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) Kt := by
  simp only [cc0_body_eq_skeleton, k0_part1_eq_skeleton, k0_part2_eq_skeleton, k0_part3_eq_skeleton, k0_part4_eq_skeleton, cc0_body_skel,
    k0_part1_skel, k0_part2_skel, k0_part3_skel, k0_part4_skel,
    semSignalWord, semWaitWord, smemLoad, smemLoadElt, Prog.lift, Prog.bind_op, Prog.bind_ret, Prog.pure_eq_ret, wp_deviceId]
  unfold bodyPre ghost creds poss payToks
  iintro ⟨⟨⟨⟨#HR, ⟨P0, P1, P2, P3, P4, P5, P6⟩, T0n, T0p, T1, T2, T3, T4, T5, T6⟩, ⟨C0, C4, C5, C6⟩, #HL, Hscr⟩,
    Ho, Hx, Hw, Ha, Hb, ⟨%g, Hout⟩⟩, Hk⟩
  unfold Dat.owesAt Pipeline.owesWithin
  icases Ho with ⟨%W, %hW, HO⟩
  rw [show (dats m ρ 0 c).owed t₀.castSucc = O₂ c + tallyAt (cell (prv c) 0) () 1 from rfl]
  iapply (signal_prv m ρ K c _ (dev1_eq c) _ (by decide) (O₂ c) W) $$ [HO T0p Hscr]
  · isplitr; · iexact HR
    isplitl [HO]; · iexact HO
    isplitl [T0p]; · iexact T0p
    iexact Hscr
  iintro HO
  -- the signal to the next device, then the wait for both neighbours': the next device's scratch buffer, slot by slot
  iapply (signal_nxt m ρ K c _ (dev2_eq c) _ (by decide) (O₃ c) W) $$ [HO T0n]
  · isplitr; · iexact HR
    isplitl [HO]; · iexact HO
    iexact T0n
  iintro HO
  iapply (wait_bar m ρ K c _ (by decide) (O₃ c) (above_O₃ c) W) $$ [C0 HO P0]
  · isplitr; · iexact HR
    isplitr; · iexact HL
    isplitl [C0]; · iexact C0
    isplitl [HO]; · iexact HO
    iexact P0
  iintro ⟨HO, P0, Hn⟩
  ihave Hn := (scr_split (nxt c)) $$ Hn
  icases Hn with ⟨N0, N1, N2⟩
  -- the two scales
  iapply (load_a c _) $$ Ha; iintro Ha
  iapply (load_b c _) $$ Hb; iintro Hb
  beta_reduce
  rw [show k0_pay1 (astg m ρ c i₀) (bstg m ρ c i₀) = scale m ρ c from rfl]
  -- the first copy holds one half of the block, the product reads the other
  ihave Hx := (owns_halves _ _ _ _).1 $$ Hx
  icases Hx with ⟨Xl, Xr⟩
  iapply (copy m ρ K c _ (dev3_eq c) 1 4 (by decide) (by decide) xM slot0 (xstg m ρ c) rfl (by unfold pay; rw [prv_nxt]) rfl (debt c 6 + debt c 5) _)
    $$ [Xl N0 HO T1 T4]
  · isplitr; · iexact HR
    isplitl [Xl]; · iexact Xl
    isplitl [N0]; · iexact N0
    isplitl [HO]; · iexact HO
    isplitl [T1]; · iexact T1
    iexact T4
  iintro ⟨C1, HO⟩
  iapply (load_x c _ _) $$ Xr; iintro Xr
  iapply (load_w c _) $$ Hw; iintro Hw
  rw [pay2_eq, pay3_eq, pay4_eq]
  ihave Hout := (owns_pts c g) $$ Hout
  icases Hout with ⟨%g0, Ho⟩
  iapply (wp_load 𝒱₀ (c : Thread nD τ) none Set.univ (m := oM) (by rw [View.set_whole]; exact Finset.subset_univ _)) $$ Ho; iintro Ho
  iapply (wp_store 𝒱₀ (c : Thread nD τ) none Set.univ (m := oM) (r := rect1 c) (Mk := Finset.univ) (by rw [View.set_whole]; exact Finset.subset_univ _)) $$ Ho
  iintro Ho
  -- slot 0 arrives, and is copied on from one half
  iapply (wait_dma m ρ K c 4 (by decide) _ rfl xM slot0 _ _ rfl 2 (lvS_csem 4) (debt c 6 + debt c 5) (above_recv0 c) _) $$ [HO C4 P4]
  · isplitr; · iexact HR
    isplitr; · iexact HL
    isplitl [C4]; · iexact C4
    isplitl [HO]; · iexact HO
    iexact P4
  iintro ⟨HO, P4, Hpay⟩
  ihave Hpay := (Entails.of_eq (show pay m ρ c 4 false = has c slot0 fullShare (xstg m ρ (prv c)) from rfl)) $$ Hpay
  ihave Hpay := (owns_halves (c : Thread nD τ) slot0 fullShare (xstg m ρ (prv c))).1 $$ Hpay
  icases Hpay with ⟨S0l, S0r⟩
  iapply (copy m ρ K c _ (dev4_eq c) 2 5 (by decide) (by decide) slot0 slot1 (xstg m ρ (prv c)) rfl (by unfold pay; rw [prv_nxt]) rfl (debt c 6) _)
    $$ [S0l N1 HO T2 T5]
  · isplitr; · iexact HR
    isplitl [S0l]; · iexact S0l
    isplitl [N1]; · iexact N1
    isplitl [HO]; · iexact HO
    isplitl [T2]; · iexact T2
    iexact T5
  iintro ⟨C2, HO⟩
  iapply (load_slot c 0 _ _ _) $$ S0r; iintro %f0 %hf0 S0r
  iapply (load_w c _) $$ Hw; iintro Hw
  rw [pay5_eq hf0, pay6_eq, pay7_eq]
  iapply (wp_load 𝒱₀ (c : Thread nD τ) none Set.univ (m := oM) (by rw [View.set_whole]; exact Finset.subset_univ _)) $$ Ho; iintro Ho
  iapply (wp_store 𝒱₀ (c : Thread nD τ) none Set.univ (m := oM) (r := rect2 c) (Mk := Finset.univ) (by rw [View.set_whole]; exact Finset.subset_univ _)) $$ Ho
  iintro Ho
  -- slot 1 arrives, and is copied on from one half
  iapply (wait_dma m ρ K c 5 (by decide) _ rfl slot0 slot1 _ _ rfl 3 (lvS_csem 5) (debt c 6) (above_recv1 c) _) $$ [HO C5 P5]
  · isplitr; · iexact HR
    isplitr; · iexact HL
    isplitl [C5]; · iexact C5
    isplitl [HO]; · iexact HO
    iexact P5
  iintro ⟨HO, P5, Hpay⟩
  ihave Hpay := (Entails.of_eq (show pay m ρ c 5 false = has c slot1 fullShare (xstg m ρ (prv (prv c))) from rfl)) $$ Hpay
  ihave Hpay := (owns_halves (c : Thread nD τ) slot1 fullShare (xstg m ρ (prv (prv c)))).1 $$ Hpay
  icases Hpay with ⟨S1l, S1r⟩
  ihave HO := (Entails.of_eq (congrArg (fun O => owes (c : Thread nD τ) O _) (zero_add (debt c 6)).symm)) $$ HO
  iapply (copy m ρ K c _ (dev5_eq c) 3 6 (by decide) (by decide) slot1 slot2 (xstg m ρ (prv (prv c))) rfl (by unfold pay; rw [prv_nxt]) rfl (0) _)
    $$ [S1l N2 HO T3 T6]
  · isplitr; · iexact HR
    isplitl [S1l]; · iexact S1l
    isplitl [N2]; · iexact N2
    isplitl [HO]; · iexact HO
    isplitl [T3]; · iexact T3
    iexact T6
  iintro ⟨C3, HO⟩
  iapply (load_slot c 1 _ _ _) $$ S1r; iintro %f1 %hf1 S1r
  rw [pay8_eq hf1]
  iapply (load_w c _) $$ Hw; iintro Hw
  rw [pay9_eq]
  iapply (wp_load 𝒱₀ (c : Thread nD τ) none Set.univ (m := oM) (by rw [View.set_whole]; exact Finset.subset_univ _)) $$ Ho; iintro Ho
  iapply (wp_store 𝒱₀ (c : Thread nD τ) none Set.univ (m := oM) (r := rect3 c) (Mk := Finset.univ) (by rw [View.set_whole]; exact Finset.subset_univ _)) $$ Ho
  iintro Ho
  -- slot 2 arrives
  iapply (wait_dma m ρ K c 6 (by decide) _ rfl slot1 slot2 _ _ rfl 4 (lvS_csem 6) (0) (Above.zero _) _) $$ [HO C6 P6]
  · isplitr; · iexact HR
    isplitr; · iexact HL
    isplitl [C6]; · iexact C6
    isplitl [HO]; · iexact HO
    iexact P6
  iintro ⟨HO, P6, Hpay⟩
  ihave Hpay := (Entails.of_eq (show pay m ρ c 6 false = has c slot2 fullShare (xstg m ρ (prv (prv (prv c)))) from rfl)) $$ Hpay
  iapply (load_slot c 2 _ _ _) $$ Hpay; iintro %f2 %hf2 S2
  iapply (load_w c _) $$ Hw; iintro Hw
  rw [pay10_eq _ hf2]
  iapply (wp_load 𝒱₀ (c : Thread nD τ) none Set.univ (m := oM) (by rw [View.set_whole]; exact Finset.subset_univ _)) $$ Ho; iintro Ho
  iapply (wp_store 𝒱₀ (c : Thread nD τ) none Set.univ (m := oM) (r := rect4 c) (Mk := Finset.univ) (by rw [View.set_whole]; exact Finset.subset_univ _)) $$ Ho
  iintro Ho
  -- the waits on the send cells give the lent halves back
  iapply (wait_dma m ρ K c 1 (by decide) _ rfl slot0 xM _ _ rfl 0 (lvS_csem 1) (0) (Above.zero _) _) $$ [HO C1 P1]
  · isplitr; · iexact HR
    isplitr; · iexact HL
    isplitl [C1]; · iexact C1
    isplitl [HO]; · iexact HO
    iexact P1
  iintro ⟨HO, P1, Hpay⟩
  ihave Hpay := (Entails.of_eq (show pay m ρ c 1 false = has c xM fullShare.left (xstg m ρ c) from rfl)) $$ Hpay
  ihave Hx := (owns_halves (c : Thread nD τ) xM fullShare (xstg m ρ c)).2 $$ [Hpay Xr]
  · isplitl [Hpay]; · iexact Hpay
    iexact Xr
  iapply (wait_dma m ρ K c 2 (by decide) _ rfl slot1 slot0 _ _ rfl 0 (lvS_csem 2) (0) (Above.zero _) _) $$ [HO C2 P2]
  · isplitr; · iexact HR
    isplitr; · iexact HL
    isplitl [C2]; · iexact C2
    isplitl [HO]; · iexact HO
    iexact P2
  iintro ⟨HO, P2, Hpay⟩
  ihave Hpay := (Entails.of_eq (show pay m ρ c 2 false = has c slot0 fullShare.left (xstg m ρ (prv c)) from rfl)) $$ Hpay
  ihave S0 := (owns_halves (c : Thread nD τ) slot0 fullShare (xstg m ρ (prv c))).2 $$ [Hpay S0r]
  · isplitl [Hpay]; · iexact Hpay
    iexact S0r
  iapply (wait_dma m ρ K c 3 (by decide) _ rfl slot2 slot1 _ _ rfl 0 (lvS_csem 3) (0) (Above.zero _) _) $$ [HO C3 P3]
  · isplitr; · iexact HR
    isplitr; · iexact HL
    isplitl [C3]; · iexact C3
    isplitl [HO]; · iexact HO
    iexact P3
  iintro ⟨HO, P3, Hpay⟩
  ihave Hpay := (Entails.of_eq (show pay m ρ c 3 false = has c slot1 fullShare.left (xstg m ρ (prv (prv c))) from rfl)) $$ Hpay
  ihave S1 := (owns_halves (c : Thread nD τ) slot1 fullShare (xstg m ρ (prv (prv c)))).2 $$ [Hpay S1r]
  · isplitl [Hpay]; · iexact Hpay
    iexact S1r
  ihave Hscr := (scr_join c _ _ _) $$ [S0 S1 S2]
  · isplitl [S0]; · iexact S0
    isplitl [S1]; · iexact S1
    iexact S2
  -- the seven cells close
  imod (close m ρ K c 0) $$ [P0] with Z0
  · isplitr; · iexact HR
    iexact P0
  imod (close m ρ K c 1) $$ [P1] with Z1
  · isplitr; · iexact HR
    iexact P1
  imod (close m ρ K c 2) $$ [P2] with Z2
  · isplitr; · iexact HR
    iexact P2
  imod (close m ρ K c 3) $$ [P3] with Z3
  · isplitr; · iexact HR
    iexact P3
  imod (close m ρ K c 4) $$ [P4] with Z4
  · isplitr; · iexact HR
    iexact P4
  imod (close m ρ K c 5) $$ [P5] with Z5
  · isplitr; · iexact HR
    iexact P5
  imod (close m ρ K c 6) $$ [P6] with Z6
  · isplitr; · iexact HR
    iexact P6
  rw [four_stores m ρ c g0, wp_ret]; imodintro
  iapply Hk
  unfold bodyPost Φ₁ zeros Dat.owesAt Pipeline.owesWithin
  rw [show (dats m ρ 0 c).owed t₀.succ = 0 from rfl]
  isplitl [Hscr Z0 Z1 Z2 Z3 Z4 Z5 Z6]
  · isplitl [Hscr]; · iexact Hscr
    isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [HO]
  · iexists (insert (csem 3, ()) (insert (csem 2, ()) (insert (csem 1, ()) (insert (csem 6, ()) (insert (csem 5, ()) (insert (csem 4, ())
      (insert (csem 0, ()) W)))))))
    isplitr; · ipureintro; exact fun _ _ => Or.inl trivial
    iexact HO
  isplitl [Hx]; · iexact Hx
  isplitl [Hw]; · iexact Hw
  isplitl [Ha]; · iexact Ha
  isplitl [Hb]; · iexact Hb
  unfold has owns
  iexists (outAt m ρ c)
  isplitr; · ipureintro; rfl
  iexact Ho

/-- What the pipeline gives the body at its one point, and what it wants back. -/
def pointPre : sProp 𝕄 :=
  iprop(Φ₀ m ρ c ∗ (dats m ρ 0 c).owesAt () t₀.castSucc
    ∗ (∃ d, has c xM fullShare ((dats m ρ 0 c).before (0 : Fin 5) t₀ d)) ∗ (∃ d, has c wM fullShare ((dats m ρ 0 c).before (1 : Fin 5) t₀ d))
    ∗ (∃ d, has c aM fullShare ((dats m ρ 0 c).before (2 : Fin 5) t₀ d)) ∗ (∃ d, has c bM fullShare ((dats m ρ 0 c).before (3 : Fin 5) t₀ d))
    ∗ (∃ d, has c oM fullShare ((dats m ρ 0 c).before (4 : Fin 5) t₀ d)))

set_option maxRecDepth 4000 in
/-- The pipeline's body obligation on device `c`. -/
theorem body_obligation : BodyObligation (dats (F := F) m ρ 0 c) (defs₀ (F := F)) 𝒱₀ () Set.univ := fun t => by
  rw [fin_N t]
  rw [bigSep_W, bigSep_W]
  show pointPre m ρ c ⊢ wpK c
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) cc0_scratch1 cc0_scratch2) (fun _ => bodyPost m ρ c)
  unfold pointPre Φ₀ start
  iintro ⟨⟨⟨⟨%K, Hg⟩, Hc, Hl⟩, Hs⟩, Ho, ⟨%d0, Hx⟩, ⟨%d1, Hw⟩, ⟨%d2, Ha⟩, ⟨%d3, Hb⟩, ⟨%d4, Hout⟩⟩
  rw [before_x, before_w, before_a, before_b]
  iapply (sound_body m ρ K c fun _ => bodyPost m ρ c)
  unfold bodyPre
  isplitr []
  · isplitl [Hg Hc Hl Hs]
    · isplitl [Hg]; · iexact Hg
      isplitl [Hc]; · iexact Hc
      isplitl [Hl]; · iexact Hl
      iexact Hs
    isplitl [Ho]; · iexact Ho
    isplitl [Hx]; · iexact Hx
    isplitl [Hw]; · iexact Hw
    isplitl [Ha]; · iexact Ha
    isplitl [Hb]; · iexact Hb
    iexists _; iexact Hout
  · iintro H; iexact H

end Body

end Cert.Gather

end
-- ==== Proof.Launch.lean ====
/-
# The launch: the ring's ghost state dealt out, and the run of all four devices

Every device's seven cells and eight duty tokens are made at launch; each token moves to the device that pays the duty. The credits
of a cell are what the four devices owe it. The run follows from the body on each device.
-/
module

public import proofs.«01_k».proof.Proof.Body
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch's own semaphores are the six send and receive ones. -/
theorem own_sems : Pipeline.OwnSemFacts cfg0.spec osem := by decide

/-- Every window is held whole. -/
theorem share_full (c : Dev nD) (w : Fin cfg0.W) : (dats m ρ 0 c).share w = fullShare := by unfold Dat.share; split <;> rfl

/-! ## Cells and tokens -/

/-- Different devices or numbers give different cells. -/
theorem cell_inj : Function.Injective fun ck : Dev nD × Fin 7 => (cell ck.1 ck.2 : GSem nD τ sig) := fun p q h =>
  Prod.ext (congrArg (fun g : GSem nD τ sig => g.1.1) h) (csem_inj (congrArg Prod.snd h))

/-- The eight duties of a device's cells: which cell, and which name. -/
def dutyCell : Fin 8 → Fin 7 := ![0, 0, 1, 2, 3, 4, 5, 6]
/-- The name of each of the eight duties. -/
def dutyName : Fin 8 → Bool := ![false, true, false, false, false, false, false, false]
/-- A duty is determined by its cell and its name. -/
theorem duty_inj : ∀ j j', dutyCell j = dutyCell j' → dutyName j = dutyName j' → j = j' := by decide

/-- Different devices or duties give different tokens. -/
theorem token_inj : Function.Injective fun cj : Dev nD × Fin 8 => ((cell cj.1 (dutyCell cj.2), 0, dutyName cj.2) : GSem nD τ sig × ℕ × Bool) := fun p q h =>
  Prod.ext (congrArg (fun x : GSem nD τ sig × ℕ × Bool => x.1.1.1) h)
    (duty_inj _ _ (csem_inj (congrArg (fun x : GSem nD τ sig × ℕ × Bool => x.1.2) h)) (congrArg (fun x : GSem nD τ sig × ℕ × Bool => x.2.2) h))

/-- All cells of the ring. -/
def allCells : Finset (GSem nD τ sig) := Finset.univ.map ⟨_, cell_inj⟩
/-- The tokens of all duties. -/
def allTokens : Finset (GSem nD τ sig × ℕ × Bool) := Finset.univ.map ⟨_, token_inj⟩

/-- The ghost state at launch: the pipeline's and the ring's. -/
def u₀ : UU := (initOf (Pipeline.cells cfgs cellOf_inj) (Pipeline.launchToks cfgs cellOf_inj), initOf allCells allTokens)

/-- The tokens of the duties of device `c`'s own cells. -/
def ownToks (c : Dev nD) : sProp 𝕄 := bigSep Finset.univ fun j : Fin 8 => tok c (dutyCell j) (dutyName j)

/-- What the launch gives device `c`. -/
def G (c : Dev nD) : sProp 𝕄 :=
  iprop((bigSep Finset.univ fun k : Fin 7 => roundState ER (ringRd m ρ) (cell c k) 0)
    ∗ ((bigSep Finset.univ fun k : Fin 7 => pos c k) ∗ bigSep Finset.univ fun k : Fin 7 => reached ER (cell c k) 0) ∗ ownToks c)
/-- What device `c` has of it once invariants are made and tokens have moved. -/
def G' (c : Dev nD) : sProp 𝕄 := iprop(∃ K, ghost m ρ K c)

/-- One resource for each of seven, written out. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
/-- One resource for each of eight, written out. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A resource for each cell is one for each device and number. -/
theorem over_cells (Φ : GSem nD τ sig → sProp 𝕄) :
    bigSep allCells Φ = bigSep Finset.univ fun c : Dev nD => bigSep Finset.univ fun k : Fin 7 => Φ (cell c k) := by
  unfold allCells; rw [bigSep_map, bigSep_univ_prod]; rfl
/-- All tokens together are every device's own. -/
theorem over_tokens : bigSep allTokens (fun x => (dutyTok ER x.1 x.2.1 x.2.2 : sProp 𝕄)) = bigSep Finset.univ fun c : Dev nD => ownToks c := by
  unfold allTokens ownToks; rw [bigSep_map, bigSep_univ_prod]; rfl

/-- The ring's launch ghost state, dealt to the devices. -/
theorem deal : BI.own (ER (initOf allCells allTokens)) ⊢ (|==> bigSep Finset.univ (G m ρ) : sProp 𝕄) := by
  iintro H
  imod (Rounds.fund ER (ringRd m ρ) allCells allTokens) $$ H with ⟨Hst, Hr, Hat, Htok⟩
  imodintro
  ihave Hst := (Entails.of_eq (over_cells fun g => roundState ER (ringRd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_tokens) $$ Htok
  unfold G; simp only [bigSep_sep']
  isplitl [Hst]; · iexact Hst
  isplitl [Hat Hr]
  · isplitl [Hat] <;> iassumption
  iexact Htok

/-- The launch's own counters at zero are the send and receive cells at zero. -/
theorem own_zero (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0) := by
  rw [Pipeline.ownSems0_eq_of_list c osem [0, 1, 2, 3, 4, 5] (by decide) (by decide)]; rfl
/-- The one counter that outlives the launch is the barrier. -/
theorem unscoped_zero (c : Dev nD) : (unscopedSems0 c : sProp 𝕄) = semVal (cell c 0) 0 := by
  unfold unscopedSems0; rw [bigSep_eq_bigSepL_of_eq [SemLoc.reg barS] (by decide) (by decide)]; rfl

/-- The counters at zero, with the round states, become the seven invariants of a device. -/
theorem make_invs (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (ringRd m ρ) κ (cell c k)))
          ∗ ((bigSep Finset.univ fun k : Fin 7 => pos c k) ∗ bigSep Finset.univ fun k : Fin 7 => reached ER (cell c k) 0) ∗ ownToks c) := by
  unfold G
  rw [own_zero, unscoped_zero]
  iintro ⟨⟨Z1, Z2, Z3, Z4, Z5, Z6⟩, Z0, Hst, Hat, Htok⟩
  imod (show iprop((bigSep Finset.univ fun k : Fin 7 => semVal (cell c k) 0) ∗ bigSep Finset.univ fun k : Fin 7 => roundState ER (ringRd m ρ) (cell c k) 0)
      ⊢ (|={Set.univ}=> bigSep Finset.univ fun k : Fin 7 => iprop(∃ κ : ℕ, cellInv ER (ringRd m ρ) κ (cell c k)) : sProp 𝕄) from by
        rw [← bigSep_sep']
        exact (bigSep_mono fun k _ => (Rounds.body_intro ER (ringRd m ρ) (cell c k)).trans inv_alloc).trans (bigSep_fupd _ _))
    $$ [Z0 Z1 Z2 Z3 Z4 Z5 Z6 Hst] with Hinv
  · isplitr [Hst]
    · rw [bigSep_seven]
      isplitl [Z0]; · iexact Z0
      isplitl [Z1]; · iexact Z1
      isplitl [Z2]; · iexact Z2
      isplitl [Z3]; · iexact Z3
      isplitl [Z4]; · iexact Z4
      isplitl [Z5]; · iexact Z5
      iexact Z6
    · iexact Hst
  imodintro
  isplitl [Hinv]; · iexact Hinv
  isplitl [Hat]; · iexact Hat
  iexact Htok

/-- The tokens move: a barrier's `false` to the previous device, its `true` to the next, a receive cell's to the previous. -/
theorem move_tokens : (bigSep Finset.univ fun c : Dev nD => (ownToks c : sProp 𝕄)) ⊢ bigSep Finset.univ fun c : Dev nD => payToks c := by
  have hn (k : Fin 7) (d : Bool) : (bigSep Finset.univ fun c : Dev nD => (tok c k d : sProp 𝕄)) = bigSep Finset.univ fun c : Dev nD => tok (nxt c) k d :=
    bigSep_univ_equiv ring (fun c : Dev nD => (tok c k d : sProp 𝕄))
  have hp (k : Fin 7) (d : Bool) : (bigSep Finset.univ fun c : Dev nD => (tok c k d : sProp 𝕄)) = bigSep Finset.univ fun c : Dev nD => tok (prv c) k d :=
    bigSep_univ_equiv ring.symm (fun c : Dev nD => (tok c k d : sProp 𝕄))
  unfold ownToks payToks
  simp only [bigSep_eight]
  show (bigSep Finset.univ fun c : Dev nD => iprop(tok c 0 false ∗ tok c 0 true ∗ tok c 1 false ∗ tok c 2 false ∗ tok c 3 false
    ∗ tok c 4 false ∗ tok c 5 false ∗ tok c 6 false : sProp 𝕄)) ⊢ _
  simp only [bigSep_sep']
  rw [hn 0 false, hp 0 true, hn 4 false, hn 5 false, hn 6 false]

/-- A persistent fact may be used for every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants under one family of names, the tokens moved: every device has its ghost state. -/
theorem regroup :
    (bigSep Finset.univ fun c : Dev nD => iprop((bigSep Finset.univ fun k : Fin 7 => iprop(∃ κ : ℕ, cellInv ER (ringRd m ρ) κ (cell c k)))
          ∗ ((bigSep Finset.univ fun k : Fin 7 => pos c k) ∗ bigSep Finset.univ fun k : Fin 7 => reached ER (cell c k) 0) ∗ ownToks c) : sProp 𝕄)
      ⊢ bigSep Finset.univ (G' m ρ) := by
  rw [bigSep_sep', bigSep_sep', bigSep_sep',
    ← bigSep_univ_prod (fun ck : Dev nD × Fin 7 => iprop(∃ κ : ℕ, cellInv ER (ringRd m ρ) κ (cell ck.1 ck.2) : sProp 𝕄)),
    ← bigSep_univ_prod (fun ck : Dev nD × Fin 7 => (reached ER (cell ck.1 ck.2) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (cell ck.1 ck.2) : sProp 𝕄))) $$ HI
  icases HK with ⟨%K, #HI⟩
  ihave Htk := (move_tokens (F := F)) $$ Htok
  iapply (with_persistent (R := records m ρ K) (Φ := fun c : Dev nD => iprop((bigSep Finset.univ fun k : Fin 7 => pos c k) ∗ payToks c)) fun c _ => by
    unfold G' ghost poss
    rw [bigSep_seven]
    iintro ⟨#HR, Hp, Ht⟩
    iexists K
    isplitr; · iexact HR
    isplitl [Hp]; · iexact Hp
    iexact Ht)
  isplitr
  · unfold records; isplitl; · iexact HI
    iexact HR
  · rw [bigSep_sep']
    isplitl [Hat]; · iexact Hat
    iexact Htk

/-- From the zero counters and what the launch gives, all devices together get their ghost state. -/
theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄) ⊢ |={Set.univ}=> bigSep Finset.univ (G' m ρ) :=
  ((bigSep_mono fun c _ => make_invs m ρ c).trans (bigSep_fupd _ _)).trans (BI.fupd_mono (regroup m ρ))

/-! ## The launch credit -/

/-- One device owes `n` to cell `j` of its image under a permutation: together the devices owe `n` to every device's cell `j`. -/
theorem sum_tally (f : Dev nD ≃ Dev nD) (j k : Fin 7) (n : ℕ) (c : Dev nD) :
    ∑ d : Dev nD, (tallyAt (cell (f d) j) () n : CellTallies nD τ sig Unit) (cell c k) () = if j = k then n else 0 := by
  rw [Finset.sum_eq_single (f.symm c)]
  · rw [tallyAt_apply, Equiv.apply_symm_apply]
    by_cases h : j = k
    · subst h; rw [if_pos ⟨rfl, rfl⟩, if_pos rfl]
    · rw [if_neg fun h' => h (csem_inj (congrArg Prod.snd h'.1)).symm, if_neg h]
  · intro d _ hd
    rw [tallyAt_apply, if_neg]
    intro h'
    exact hd (by rw [show c = f d from congrArg (fun g : GSem nD τ sig => g.1.1) h'.1, Equiv.symm_apply_apply])
  · intro h; exact absurd (Finset.mem_univ _) h

/-- What the four devices owe to cell `k` of device `c`. -/
theorem owed_all (c : Dev nD) (k : Fin 7) : ∑ d : Dev nD, O₀ d (cell c k) ()
    = ((((if 6 = k then N else 0) + if 5 = k then N else 0) + if 4 = k then N else 0) + if 0 = k then 1 else 0) + if 0 = k then 1 else 0 := by
  simp only [O₀, Pi.add_apply, Finsupp.add_apply, Finset.sum_add_distrib]
  exact congrArg₂ (· + ·) (congrArg₂ (· + ·) (congrArg₂ (· + ·) (congrArg₂ (· + ·) (sum_tally ring 6 k N c) (sum_tally ring 5 k N c))
    (sum_tally ring 4 k N c)) (sum_tally ring 0 k 1 c)) (sum_tally ring.symm 0 k 1 c)

/-- The credit that the launch puts on a cell is what the devices owe to it. -/
theorem launch_credit (c : Dev nD) (k : Fin 7) (n : ℕ) (hn : ((((if 6 = k then N else 0) + if 5 = k then N else 0) + if 4 = k then N else 0)
      + if 0 = k then 1 else 0) + (if 0 = k then 1 else 0) = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, owed_all, hn]

/-- The launch gives a device the credits it waits for. -/
theorem creds_intro (c : Dev nD) : (Pipeline.launchCred O₀ c : sProp 𝕄) ⊢ creds c := by
  have hsub : (bigSep Finset.univ fun sm : SemLoc sig => cred (tallyOn ((c : Thread nD τ), sm) (launchCredit (Pipeline.owing O₀) 0 ((c : Thread nD τ), sm))) : sProp 𝕄)
      ⊢ bigSep ((Finset.univ : Finset (Fin 7)).map ⟨csem, fun _ _ h => csem_inj h⟩)
          fun sm : SemLoc sig => cred (tallyOn ((c : Thread nD τ), sm) (launchCredit (Pipeline.owing O₀) 0 ((c : Thread nD τ), sm))) :=
    bigSep_subset (Finset.subset_univ _)
  unfold Pipeline.launchCred creds
  rw [bigSep_map, bigSep_seven] at hsub
  iintro H
  ihave H := hsub $$ H
  icases H with ⟨H0, -, -, -, H4, H5, H6⟩
  isplitl [H0]; · iapply (Entails.of_eq (congrArg cred (launch_credit c 0 2 (by decide)))); iexact H0
  isplitl [H4]; · iapply (Entails.of_eq (congrArg cred (launch_credit c 4 N (by rw [if_neg (by decide), if_neg (by decide), if_pos rfl, if_neg (by decide)]; omega)))); iexact H4
  isplitl [H5]; · iapply (Entails.of_eq (congrArg cred (launch_credit c 5 N (by rw [if_neg (by decide), if_pos rfl, if_neg (by decide), if_neg (by decide)]; omega)))); iexact H5
  iapply (Entails.of_eq (congrArg cred (launch_credit c 6 N (by rw [if_pos rfl, if_neg (by decide), if_neg (by decide), if_neg (by decide)]; simp only [Nat.add_zero])))); iexact H6

/-! ## What the launch theorem asks -/

/-- What the launch leaves a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- On entry a device has what the body needs. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- On exit it gives back the counters at zero and the scratch buffer. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_zero, unscoped_zero]
  unfold Φ₁ scr zeros
  iintro ⟨Hr, Z0, Z⟩
  isplitl [Z0]; · iexact Z0
  isplitl [Z]; · iexact Z
  iexact Hr

/-- The pipeline's own waits are below everything that is owed. -/
theorem stage_waits (c : Dev nD) : (levAts L lv : sProp 𝕄) ⊢ Pipeline.cellsWaits cfgs (dats m ρ) () 0 c :=
  Pipeline.cellsWaits_intro cfgs (dats m ρ) () 0 c fun w s t =>
    mayWait_of c _ 0 (by fin_cases w <;> fin_cases s <;> decide) _ (by
      rcases t with ⟨_ | _, ht⟩
      · exact above_O₀ c
      · exact Above.zero 0)

/-! ## The run -/

/-- What the run leaves in each window's array. -/
def finalA (c : Dev nD) (w : Fin cfg0.W) : Buf (Elt F) ((cfg0.win w).arr.view.loc (c : Thread nD τ)) := (dats m ρ 0 c).arrAt w cfg0.N

/-- Every array of every device ends at `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, over any float values: every fair execution of the four devices ends, and every final state has
    each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run leaves the four arguments as they were: the first, -/
theorem final_arg0 (c : Dev nD) : finalA m ρ c (0 : Fin 5) = m ((c : Thread nD τ).loc main_arg0) := (dats (F := F) m ρ 0 c).arrAt_in (0 : Fin 5) rfl _
/-- the second, -/
theorem final_arg1 (c : Dev nD) : finalA m ρ c (1 : Fin 5) = m ((c : Thread nD τ).loc main_arg1) := (dats (F := F) m ρ 0 c).arrAt_in (1 : Fin 5) rfl _
/-- the third, -/
theorem final_arg2 (c : Dev nD) : finalA m ρ c (2 : Fin 5) = m ((c : Thread nD τ).loc main_arg2) := (dats (F := F) m ρ 0 c).arrAt_in (2 : Fin 5) rfl _
/-- and the fourth. -/
theorem final_arg3 (c : Dev nD) : finalA m ρ c (3 : Fin 5) = m ((c : Thread nD τ).loc main_arg3) := (dats (F := F) m ρ 0 c).arrAt_in (3 : Fin 5) rfl _

end Cert.Gather

end
-- ==== Proof.Reference.lean ====
/- The reference's result as one function of its argument arrays, at any float values: its one store holds the payload of
   the whole operands (`stored_eq`), and its one grid point stages whole arrays (`whole_x` to `whole_out`). -/
module

public import proofs.«01_k».proof.Proof.Gen.ReferenceIdeal.Value

@[expose] public section

noncomputable section

namespace Cert.Gather.Reference

open Cert.ReferenceIdeal Cert.ReferenceIdeal.Gen Cert.ReferenceIdeal.Value
open Idealize.ShloMosaic Idealize.ShloMosaic.TcCoe Idealize.SL.Sem

variable {F : FTy → Type} [FloatOps F]

/-- The one index of a scale. -/
def j₀ : S1.Idx := fun | ⟨0, _⟩ => ⟨0, Nat.one_pos⟩

/-- The reference's result from whole arrays. -/
def whole (x : Vec F S4096x4096 .fp8e4m3) (w : Vec F S4096x8192 .fp8e5m2) (a b : Vec F S1 .f32) : Vec F S4096x8192 .f32 :=
  k0_pay1 x w (a j₀) (b j₀)

/-- The offset (0, 0) is zero on both axes. -/
theorem origin : (![0, 0] : Fin 2 → Nat) = fun _ => 0 := funext fun a => by fin_cases a <;> rfl

/-- A scale has one index. -/
theorem idx_unique (i j : S1.Idx) : i = j := funext fun a => by
  match a with
  | ⟨0, _⟩ => exact Subsingleton.elim (α := Fin 1) _ _

/-- The output's staging buffer ends holding `whole` of what the inputs' hold. -/
theorem stored_eq (c : Dev nD) (arg0 : Memref sig .tc .vmem S4096x4096 .fp8e4m3) (h0 : arg0.IsWhole)
    (arg1 : Memref sig .tc .vmem S4096x8192 .fp8e5m2) (h1 : arg1.IsWhole) (arg2 : Memref sig .tc .smem S1 .f32) (h2 : arg2.IsWhole)
    (arg3 : Memref sig .tc .smem S1 .f32) (h3 : arg3.IsWhole) (arg4 : Memref sig .tc .vmem S4096x8192 .f32) (h4 : arg4.IsWhole)
    (x : Vec F S4096x4096 .fp8e4m3) (w : Vec F S4096x8192 .fp8e5m2) (a b : Vec F S1 .f32) :
    out0_A_4 c arg0 h0 arg1 h1 arg2 h2 arg3 h3 arg4 h4 x w a b = whole x w a b := by
  unfold out0_A_4
  rw [View.read_writes_junk_eq_canon]
  show View.canon ([⟨Rect.unit ![0, 0] S4096x8192.size inb_S4096x8192_S4096x8192_0_0,
      k0_pay1
        (View.readAt (Elt F) arg0.view (Rect.unit ![0, 0] S4096x4096.size inb_S4096x4096_S4096x4096_0_0).toLoadRect (h0.unread x))
        (View.readAt (Elt F) arg1.view (Rect.unit ![0, 0] S4096x8192.size inb_S4096x8192_S4096x8192_0_0).toLoadRect (h1.unread w))
        (View.readAt (Elt F) arg2.view (Rect.unit (s := S1) ![0] S1.size inb_S1_S1_0).toLoadRect (h2.unread a) _)
        (View.readAt (Elt F) arg3.view (Rect.unit (s := S1) ![0] S1.size inb_S1_S1_0).toLoadRect (h3.unread b) _)⟩] :
      List (View.Piece (Elt F) S4096x8192 .f32)) = _
  rw [View.canon_unit_zero origin, View.readAt_eq_ld, View.readAt_eq_ld, View.readAt_eq_ld, View.readAt_eq_ld, h0.read_unread,
    h1.read_unread, h2.read_unread, h3.read_unread, View.ld_unit_zero origin, View.ld_unit_zero origin]
  exact congrArg₂ (k0_pay1 x w) (congrArg a (idx_unique _ _)) (congrArg b (idx_unique _ _))

variable (m : (ℓ : Loc nD τ sig) → Buf (Elt F) ℓ) (ρ : Dev nD → PrngReg)

/-- At the one grid point every window's block is its whole array: reading it reads the array. The first argument's, -/
theorem whole_x (f : S4096x4096.Idx → Elt F .fp8e4m3) : (win0_0.blk (0 : Fin 1)).view.read (Elt F) f = f :=
  Memref.read_access_unit_zero (Elt F) main_arg0 (funext fun a => by fin_cases a <;> decide +kernel) (fun a => by fin_cases a <;> decide +kernel) f
/-- the second argument's, -/
theorem whole_w (f : S4096x8192.Idx → Elt F .fp8e5m2) : (win0_1.blk (0 : Fin 1)).view.read (Elt F) f = f :=
  Memref.read_access_unit_zero (Elt F) main_arg1 (funext fun a => by fin_cases a <;> decide +kernel) (fun a => by fin_cases a <;> decide +kernel) f
/-- the third's, -/
theorem whole_a (f : S1.Idx → Elt F .f32) : (win0_2.blk (0 : Fin 1)).view.read (Elt F) f = f := funext fun j => congrArg f (idx_unique _ _)
/-- the fourth's, -/
theorem whole_b (f : S1.Idx → Elt F .f32) : (win0_3.blk (0 : Fin 1)).view.read (Elt F) f = f := funext fun j => congrArg f (idx_unique _ _)
/-- and the result's. -/
theorem whole_out (f : S4096x8192.Idx → Elt F .f32) : (win0_4.blk (0 : Fin 1)).view.read (Elt F) f = f :=
  Memref.read_access_unit_zero (Elt F) main_v0 (funext fun a => by fin_cases a <;> decide +kernel) (fun a => by fin_cases a <;> decide +kernel) f

/-- The result array after the run is `whole` of the arguments as launched. -/
theorem final_out (c : Dev nD) : (dats m 0 c).arrAt 4 cfg0.N
    = whole (m ((c : Thread nD τ).loc main_arg0)) (m ((c : Thread nD τ).loc main_arg1)) (m ((c : Thread nD τ).loc main_arg2))
        (m ((c : Thread nD τ).loc main_arg3)) := by
  refine (whole_out _).symm.trans ((blocks4 m c (0 : Fin 1) (flush0_4 _)).trans ((flushed4_A m c _).trans ?_))
  rw [stored_eq, show iblk m c 0 (0 : Fin 1) = _ from whole_x _, show iblk m c 1 (0 : Fin 1) = _ from whole_w _,
    show iblk m c 2 (0 : Fin 1) = _ from whole_a _, show iblk m c 3 (0 : Fin 1) = _ from whole_b _]
  rfl

/-- The reference's run: its result is `whole` of its arguments, which it leaves as they were. -/
theorem run : θ_run defs (onTc (τ := τ) (main (F := F))) ⟨m, fun _ => 0, ρ⟩ fun r => ∀ c : Dev nD,
      r.2.mem ((c : Thread nD τ).loc main_v0)
        = whole (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_out m c), (h c).2⟩) (run_blocks m ρ)

end Cert.Gather.Reference

end
-- ==== Proof.Value.lean ====
/- The kernel's results against the reference's, over the extended reals: what the kernel leaves in its result array
   (`final_out`), the two closed forms of one entry (`tile_entry`, `whole_entry`), and that device `c`'s result is block `c` of
   the reference's (`block_eq`). -/
module

public import proofs.«01_k».proof.Proof.Launch
public import proofs.«01_k».proof.Proof.Reference
public import Idealize.ShloMosaic.Lib.MatmulPlain
public import Idealize.ShloMosaic.Lib.IdealHost
public import Idealize.ShloMosaic.Lib.Layout

@[expose] public section

noncomputable section

namespace Cert.Gather

open Cert.KernelIdeal Cert.KernelIdeal.Gen
open Idealize.ShloMosaic Idealize.ShloMosaic.TcCoe Idealize.SL.Sem
open Idealize.ShloMosaic.ValueIdx (ix2)

section AnyFloats

variable {F : FTy → Type} [FloatOps F]
variable (m : (ℓ : Loc nD τ sig) → Buf (Elt F) ℓ) (ρ : Dev nD → PrngReg)

/-- At the one grid point every window's block is its whole array: reading it reads the array. The first argument's, -/
theorem whole_x (f : S1024x4096.Idx → Elt F .fp8e4m3) : (win0_0.blk (0 : Fin 1)).view.read (Elt F) f = f :=
  Memref.read_access_unit_zero (Elt F) main_arg0 (funext fun a => by fin_cases a <;> decide +kernel) (fun a => by fin_cases a <;> decide +kernel) f
/-- the second argument's, -/
theorem whole_w (f : S4096x2048.Idx → Elt F .fp8e5m2) : (win0_1.blk (0 : Fin 1)).view.read (Elt F) f = f :=
  Memref.read_access_unit_zero (Elt F) main_arg1 (funext fun a => by fin_cases a <;> decide +kernel) (fun a => by fin_cases a <;> decide +kernel) f
/-- the third's, -/
theorem whole_a (f : S1.Idx → Elt F .f32) : (win0_2.blk (0 : Fin 1)).view.read (Elt F) f = f := funext fun j => congrArg f (idx_one _ _)
/-- the fourth's, -/
theorem whole_b (f : S1.Idx → Elt F .f32) : (win0_3.blk (0 : Fin 1)).view.read (Elt F) f = f := funext fun j => congrArg f (idx_one _ _)
/-- and the result's. -/
theorem whole_out (f : S4096x2048.Idx → Elt F .f32) : (win0_4.blk (0 : Fin 1)).view.read (Elt F) f = f :=
  Memref.read_access_unit_zero (Elt F) main_v1 (funext fun a => by fin_cases a <;> decide +kernel) (fun a => by fin_cases a <;> decide +kernel) f

/-- So the staged operands are the argument arrays: the first, -/
theorem xstg_eq (c : Dev nD) : xstg m ρ c = m ((c : Thread nD τ).loc main_arg0) := whole_x _
/-- the second, -/
theorem wstg_eq (c : Dev nD) : wstg m ρ c = m ((c : Thread nD τ).loc main_arg1) := whole_w _
/-- the third, -/
theorem astg_eq (c : Dev nD) : astg m ρ c = m ((c : Thread nD τ).loc main_arg2) := whole_a _
/-- and the fourth. -/
theorem bstg_eq (c : Dev nD) : bstg m ρ c = m ((c : Thread nD τ).loc main_arg3) := whole_b _

/-- The result array of device `c` ends holding `outAt`. -/
theorem final_out (c : Dev nD) : finalA m ρ c (4 : Fin 5) = outAt m ρ c := by
  unfold finalA
  rw [← whole_out ((dats m ρ 0 c).arrAt (4 : Fin 5) cfg0.N)]
  rw [show cfg0.N = (t₀ : Fin cfg0.N).val + 1 from rfl, (dats m ρ 0 c).arrAt_succ (4 : Fin 5) t₀, if_pos (flush0_4 t₀)]
  exact View.read_write_univ _ _

end AnyFloats

/-! ## One entry of a result, over the extended reals -/

/-- The product with its logistic is the quotient by one plus the exponential of the negation: at every extended real. -/
theorem mul_logistic (y : EReal) : y * Ideal.logistic y = Ideal.div y (1 + Ideal.exp (0 - y)) := by
  induction y with
  | bot =>
    rw [Ideal.logistic_bot, mul_zero, zero_sub, EReal.neg_bot, Ideal.exp_top,
      EReal.add_top_of_ne_bot (show (1 : EReal) ≠ ⊥ from EReal.coe_ne_bot 1), Ideal.div, if_neg EReal.top_ne_zero, EReal.inv_top, mul_zero]
  | top =>
    rw [Ideal.logistic_top, mul_one, zero_sub, EReal.neg_top, Ideal.exp_bot, add_zero, Ideal.div, if_neg one_ne_zero,
      ← EReal.coe_one, ← EReal.coe_inv, inv_one, EReal.coe_one, mul_one]
  | coe r =>
    have hp : (0 : ℝ) < 1 + Real.exp (-r) := by positivity
    have h : (1 : EReal) + Ideal.exp (0 - (r : EReal)) = ((1 + Real.exp (-r) : ℝ) : EReal) := by
      rw [zero_sub, ← EReal.coe_neg, Ideal.exp_coe, ← EReal.coe_one, ← EReal.coe_add]
    rw [Ideal.logistic_coe, h, Ideal.div, if_neg (by exact_mod_cast hp.ne'), ← EReal.coe_inv]

/-- `y / (1 + exp (−y))`. -/
def silu (y : EReal) : EReal := Ideal.div y (1 + Ideal.exp (0 - y))

/-- A clip of the exponent at ±60 changes nothing where `y` is within those bounds. -/
theorem silu_clip (y : EReal) (lo : -60 ≤ y) (hi : y ≤ 60) : Ideal.div y (1 + Ideal.exp (0 - min (max y (-60)) 60)) = silu y := by
  rw [max_eq_left lo, min_eq_left hi, silu]

/-- Entry (r, j) of a matrix product onto zero: the sum over the contracted coordinate. -/
theorem product_entry {M K N : ℕ} {φ₁ φ₂ : FTy} (x : FVec Ideal ⟨2, ![M, K]⟩ φ₁) (w : FVec Ideal ⟨2, ![K, N]⟩ φ₂) (r : Fin M) (j : Fin N) :
    FloatOps.matmul (DotDims.plain M K N) none x w (constant ⟨2, ![M, N]⟩ .f32 0x00000000#32) (ix2 r j)
      = (∑ k : Fin K, (x (ix2 r k) : EReal) * w (ix2 k j) : EReal) := by
  rw [Ideal.matmul_plain_apply]
  show (Ideal.ofBits .f32 0x00000000#32 + _ : EReal) = _
  rw [Ideal.ofBits_zero_f32, zero_add]

/-- Entry (r, j) of a row block of the kernel's result: `silu` of the scaled product of row `r` and column `j`. -/
theorem tile_entry (s : Ideal .f32) (x : FVec Ideal S1024x4096 .fp8e4m3) (w : FVec Ideal S4096x2048 .fp8e5m2) (r : Fin 1024) (j : Fin 2048) :
    tile (F := Ideal) s x w (ix2 r j) = silu ((∑ k : Fin 4096, (x (ix2 r k) : EReal) * w (ix2 k j)) * s) := by
  rw [silu, ← mul_logistic, ← product_entry x w r j]
  rfl

/-- Entry (r, j) of the reference's result: the same of the whole arrays. -/
theorem whole_entry (x : FVec Ideal Cert.ReferenceIdeal.S4096x4096 .fp8e4m3) (w : FVec Ideal Cert.ReferenceIdeal.S4096x8192 .fp8e5m2)
    (a b : FVec Ideal S1 .f32) (r : Fin 4096) (j : Fin 8192) :
    Reference.whole (F := Ideal) x w a b (ix2 r j) = silu ((∑ k : Fin 4096, (x (ix2 r k) : EReal) * w (ix2 k j)) * (a i₀ * b i₀ : EReal)) := by
  rw [show i₀ = Reference.j₀ from idx_one _ _, silu, ← product_entry x w r j, ← Ideal.ofBits_one_f32, ← Ideal.ofBits_zero_f32]
  rfl

/-! ## The results of the devices are the blocks of the reference's -/

variable (m : (ℓ : Loc nD τ sig) → Buf (Elt Ideal) ℓ) (ρ : Dev nD → PrngReg)

/-- Where the devices hold the row blocks of `x`, the column blocks of `w` and the scales, device `c`'s result is column
    block `c` of the reference's. -/
theorem block_eq (X : Cert.ReferenceIdeal.S4096x4096.Idx → Elt Ideal .fp8e4m3) (W : Cert.ReferenceIdeal.S4096x8192.Idx → Elt Ideal .fp8e5m2)
    (A B : S1.Idx → Elt Ideal .f32)
    (hx : ∀ c : Dev nD, m ((c : Thread nD τ).loc main_arg0) = Layout.block ⟨2, ![1024, 4096]⟩ ⟨2, ![4096, 4096]⟩ 0 4 c X)
    (hw : ∀ c : Dev nD, m ((c : Thread nD τ).loc main_arg1) = Layout.block ⟨2, ![4096, 2048]⟩ ⟨2, ![4096, 8192]⟩ 1 4 c W)
    (ha : ∀ c : Dev nD, m ((c : Thread nD τ).loc main_arg2) = A) (hb : ∀ c : Dev nD, m ((c : Thread nD τ).loc main_arg3) = B) (c : Dev nD) :
    outAt m ρ c = Layout.block ⟨2, ![4096, 2048]⟩ ⟨2, ![4096, 8192]⟩ 1 4 c (Reference.whole (F := Ideal) X W A B) := by
  funext i
  have h0 : (i 0).val < 4096 := (i 0).isLt
  have h1 : (i 1).val < 2048 := (i 1).isLt
  have hc : c.val < 4 := c.isLt
  unfold outAt scale
  rw [xstg_eq, wstg_eq, astg_eq, bstg_eq, hx, hw, ha, hb,
    show rowIn i = ix2 ⟨(i 0).val % 1024, Nat.mod_lt _ (by decide)⟩ ⟨(i 1).val, h1⟩ from funext fun a => by match a with | ⟨0, _⟩ => rfl | ⟨1, _⟩ => rfl,
    tile_entry, Layout.block_apply,
    show Layout.Tiles.idx _ c i = ix2 ⟨(i 0).val, h0⟩ ⟨c.val * 2048 + (i 1).val, by omega⟩ from
      funext fun a => by match a with | ⟨0, _⟩ => rfl | ⟨1, _⟩ => rfl,
    whole_entry]
  refine congrArg silu (congrArg₂ (· * ·) (Finset.sum_congr rfl fun k _ => congrArg₂ (· * ·) (congrArg X ?_) (congrArg W ?_)) rfl)
  · funext a
    match a with
    | ⟨0, _⟩ => exact Fin.ext (show (i 0).val / 1024 * 1024 + (i 0).val % 1024 = (i 0).val by omega)
    | ⟨1, _⟩ => rfl
  · funext a
    match a with
    | ⟨0, _⟩ => rfl
    | ⟨1, _⟩ => rfl

end Cert.Gather

end
-- ==== Proof.SameText.lean ====
/- `Kernel` and `KernelIdeal` are printed from the same text, no operation being rewritten: at the bit-exact floats their programs
   are the same terms, so that a run of one is a run of the other. -/
module

public import proofs.«01_k».proof.Defs
public import proofs.«01_k».proof.Proof.Gen.Kernel
public import proofs.«01_k».proof.Proof.Gen.KernelIdeal

@[expose] public section

noncomputable section

namespace Cert.SameText

open Idealize.ShloMosaic Idealize.SL.Sem

/-- The two @main are the same program. -/
theorem main_eq : Cert.Kernel.main (F := Bits) = Cert.KernelIdeal.main (F := Bits) := rfl

/-- The two kernel bodies are the same function. -/
theorem body_eq : Cert.Kernel.cc0_body (F := Bits) = Cert.KernelIdeal.cc0_body (F := Bits) := rfl

/-- So are the kernels' body tables, label by label, -/
theorem kernels_eq : Cert.Kernel.defs₀ (F := Bits) = Cert.KernelIdeal.defs₀ (F := Bits) := by
  funext p ℓ a
  match p with
  | .tc =>
    match ℓ, a with
    | ⟨0, _⟩, (t, s) =>
      unfold Cert.Kernel.defs₀ Cert.KernelIdeal.defs₀
      exact congrFun (congrFun (congrFun (congrFun (congrFun (congrFun (congrFun (congrFun (congrFun (congrFun (congrFun (congrFun (congrFun
        (congrFun body_eq _) _) _) _) _) _) _) _) _) _) _) _) _) _
    | ⟨_ + 1, h⟩, _ => exact absurd h (Nat.not_lt.2 (Nat.le_add_left _ _))
  | .scScalar _ => rfl
  | .scVector _ _ => rfl

/-- and the whole body tables. -/
theorem defs_eq : Cert.Kernel.defs (F := Bits) = Cert.KernelIdeal.defs (F := Bits) :=
  congrArg (Pipeline.defs Cert.KernelIdeal.pcfgs) kernels_eq

end Cert.SameText

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import proofs.«01_k».proof.Proof.SameText
public import Idealize.ShloMosaic.Adequacy
public import Idealize.ShloMosaic.Init

@[expose] public section

noncomputable section

namespace Cert.Proof

open Idealize.ShloMosaic Idealize.SL.Sem

section Runs

open Cert.KernelIdeal

variable {F : FTy → Type} [FloatOps F] (m : (ℓ : Loc nD τ sig) → Buf (Elt F) ℓ) (ρ : Dev nD → PrngReg)

/-- What a final state of the kernel's run says: every argument as launched, the result at `outAt`, every counter at zero. -/
theorem run_read : θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v1) = Gather.outAt m ρ c)
      ∧ r.2.sem = fun _ => 0) :=
  (θ_run defs _ _).mono (fun _ h => ⟨fun c => ⟨⟨(h.1 c (0 : Fin 5)).trans (Gather.final_arg0 m ρ c),
      (h.1 c (1 : Fin 5)).trans (Gather.final_arg1 m ρ c), (h.1 c (2 : Fin 5)).trans (Gather.final_arg2 m ρ c),
      (h.1 c (3 : Fin 5)).trans (Gather.final_arg3 m ρ c)⟩, (h.1 c (4 : Fin 5)).trans (Gather.final_out m ρ c)⟩, h.2⟩)
    (Gather.run_main m ρ)

end Runs

/-- The kernel terminates at the bit-exact floats, leaves its arguments as they were and every counter at zero. -/
theorem frame_kernel : Cert.quiescent_Kernel := fun m ρ _ => by
  rw [SameText.defs_eq, SameText.main_eq]
  exact (θ_run Cert.KernelIdeal.defs _ _).mono (fun _ h => ⟨fun c => (h.1 c).1, h.2⟩) (run_read (F := Bits) m ρ)

/-- The same over the extended reals. -/
theorem frame_kernelIdeal : Cert.quiescent_KernelIdeal := fun m ρ _ =>
  (θ_run Cert.KernelIdeal.defs _ _).mono (fun _ h => ⟨fun c => (h.1 c).1, h.2⟩) (run_read (F := Ideal) m ρ)

/-- Every device's result is its column block of the reference's result. -/
theorem algebraic : Cert.algebraic_KernelIdeal_ReferenceIdeal := fun m ρ m' ρ' _ hagree =>
  ⟨Gather.Reference.whole (F := Ideal) (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)),
    (θ_run Cert.KernelIdeal.defs _ _).mono
      (fun _ h c => ⟨(h.1 c).2.trans (Gather.block_eq m ρ _ _ _ _ (fun c => (hagree c).1) (fun c => (hagree c).2.1)
        (fun c => (hagree c).2.2.1) (fun c => (hagree c).2.2.2) c), (h.1 c).1⟩) (run_read (F := Ideal) m ρ),
    (θ_run Cert.ReferenceIdeal.defs _ _).mono (fun _ h => h 0) (Gather.Reference.run (F := Ideal) m' ρ')⟩

/-- The five claims together. -/
theorem claim : Cert.Claim := ⟨Cert.Kernel.Gen.facts, Cert.KernelIdeal.Gen.facts, Cert.ReferenceIdeal.Gen.facts,
  frame_kernel, frame_kernelIdeal, fun m ρ _ => Cert.ReferenceIdeal.Gen.frame m ρ, trivial, algebraic⟩

end Cert.Proof

end
